-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x6144 : Shape := ⟨3, ![2, 1024, 6144]⟩
abbrev S2x1024 : Shape := ⟨2, ![2, 1024]⟩
abbrev S6144x160 : Shape := ⟨2, ![6144, 160]⟩
abbrev S2x1024x6 : Shape := ⟨3, ![2, 1024, 6]⟩
abbrev S2048x6144 : Shape := ⟨2, ![2048, 6144]⟩
abbrev S160x6144 : Shape := ⟨2, ![160, 6144]⟩
abbrev S6x2x1024 : Shape := ⟨3, ![6, 2, 1024]⟩
abbrev S2x160x1024 : Shape := ⟨3, ![2, 160, 1024]⟩
abbrev S3x2048x512 : Shape := ⟨3, ![3, 2048, 512]⟩
abbrev S2048x160 : Shape := ⟨2, ![2048, 160]⟩
abbrev S160x2048 : Shape := ⟨2, ![160, 2048]⟩
abbrev S4 : Shape := ⟨1, ![4]⟩
abbrev S3 : Shape := ⟨1, ![3]⟩
abbrev S12 : Shape := ⟨1, ![12]⟩
abbrev S2 : Shape := ⟨1, ![2]⟩
abbrev S1 : Shape := ⟨1, ![1]⟩
abbrev S_ : Shape := ⟨0, ![]⟩
abbrev S512x6144 : Shape := ⟨2, ![512, 6144]⟩
abbrev S160x512 : Shape := ⟨2, ![160, 512]⟩
abbrev S1x512 : Shape := ⟨2, ![1, 512]⟩
abbrev S512 : Shape := ⟨1, ![512]⟩
abbrev S1x1x512 : Shape := ⟨3, ![1, 1, 512]⟩
abbrev S1x2x512 : Shape := ⟨3, ![1, 2, 512]⟩
abbrev S2x512 : Shape := ⟨2, ![2, 512]⟩
abbrev S1x160x512 : Shape := ⟨3, ![1, 160, 512]⟩
abbrev S512x160 : Shape := ⟨2, ![512, 160]⟩
abbrev S1x160x1024 : Shape := ⟨3, ![1, 160, 1024]⟩
abbrev S160x1024 : Shape := ⟨2, ![160, 1024]⟩
abbrev S2048x512 : Shape := ⟨2, ![2048, 512]⟩
abbrev S1x2048x512 : Shape := ⟨3, ![1, 2048, 512]⟩
abbrev S2x1024x160 : Shape := ⟨3, ![2, 1024, 160]⟩

abbrev nBuf : Space → Nat
  | .hbm => 15
  | .vmem => 10
  | .smem => 0
  | _ => 0

abbrev bufTy : (tb : Table) → Fin (tcTables nBuf tb) → BufTy
  | .hbm, ⟨0, _⟩ => ⟨S2x1024x6144, .fp8e4m3⟩
  | .hbm, ⟨1, _⟩ => ⟨S2x1024, .f32⟩
  | .hbm, ⟨2, _⟩ => ⟨S6144x160, .bf16⟩
  | .hbm, ⟨3, _⟩ => ⟨S2x1024x6, .i32⟩
  | .hbm, ⟨4, _⟩ => ⟨S2x1024x6, .bf16⟩
  | .hbm, ⟨5, _⟩ => ⟨S2048x6144, .fp8e4m3⟩
  | .hbm, ⟨6, _⟩ => ⟨S160x6144, .bf16⟩
  | .hbm, ⟨7, _⟩ => ⟨S6x2x1024, .i32⟩
  | .hbm, ⟨8, _⟩ => ⟨S6x2x1024, .bf16⟩
  | .hbm, ⟨9, _⟩ => ⟨S2048x6144, .bf16⟩
  | .hbm, ⟨10, _⟩ => ⟨S160x6144, .f32⟩
  | .hbm, ⟨11, _⟩ => ⟨S2x160x1024, .f32⟩
  | .hbm, ⟨12, _⟩ => ⟨S2x1024x6144, .bf16⟩
  | .hbm, ⟨13, _⟩ => ⟨S6144x160, .f32⟩
  | .hbm, ⟨14, _⟩ => ⟨S2x1024x160, .f32⟩
  | .local _ .vmem, ⟨0, _⟩ => ⟨S2048x6144, .fp8e4m3⟩
  | .local _ .vmem, ⟨1, _⟩ => ⟨S2x1024, .f32⟩
  | .local _ .vmem, ⟨2, _⟩ => ⟨S160x6144, .bf16⟩
  | .local _ .vmem, ⟨3, _⟩ => ⟨S6x2x1024, .i32⟩
  | .local _ .vmem, ⟨4, _⟩ => ⟨S6x2x1024, .bf16⟩
  | .local _ .vmem, ⟨5, _⟩ => ⟨S3x2048x512, .bf16⟩
  | .local _ .vmem, ⟨6, _⟩ => ⟨S160x6144, .f32⟩
  | .local _ .vmem, ⟨7, _⟩ => ⟨S2x160x1024, .f32⟩
  | .local _ .vmem, ⟨8, _⟩ => ⟨S2048x160, .bf16⟩
  | .local _ .vmem, ⟨9, _⟩ => ⟨S160x2048, .bf16⟩
  | _, _ => ⟨S2x1024x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none
-- ==== ReferenceIdeal.lean ====
abbrev S2x1024x6144 : Shape := ⟨3, ![2, 1024, 6144]⟩
abbrev S2x1024 : Shape := ⟨2, ![2, 1024]⟩
abbrev S6144x160 : Shape := ⟨2, ![6144, 160]⟩
abbrev S2x1024x6 : Shape := ⟨3, ![2, 1024, 6]⟩
abbrev S2x1024x160 : Shape := ⟨3, ![2, 1024, 160]⟩
abbrev S2x1024x1 : Shape := ⟨3, ![2, 1024, 1]⟩
abbrev S1x160 : Shape := ⟨2, ![1, 160]⟩
abbrev S160 : Shape := ⟨1, ![160]⟩
abbrev S2x1024x6x1 : Shape := ⟨4, ![2, 1024, 6, 1]⟩
abbrev S1x1x1x160 : Shape := ⟨4, ![1, 1, 1, 160]⟩
abbrev S2x1024x6x160 : Shape := ⟨4, ![2, 1024, 6, 160]⟩

abbrev nBuf : Space → Nat
  | .hbm => 8
  | .vmem => 8
  | .smem => 0
  | _ => 0

abbrev bufTy : (tb : Table) → Fin (tcTables nBuf tb) → BufTy
  | .hbm, ⟨0, _⟩ => ⟨S2x1024x6144, .fp8e4m3⟩
  | .hbm, ⟨1, _⟩ => ⟨S2x1024, .f32⟩
  | .hbm, ⟨2, _⟩ => ⟨S6144x160, .bf16⟩
  | .hbm, ⟨3, _⟩ => ⟨S2x1024x6, .i32⟩
  | .hbm, ⟨4, _⟩ => ⟨S2x1024x6, .bf16⟩
  | .hbm, ⟨5, _⟩ => ⟨S2x1024x6144, .bf16⟩
  | .hbm, ⟨6, _⟩ => ⟨S6144x160, .f32⟩
  | .hbm, ⟨7, _⟩ => ⟨S2x1024x160, .f32⟩
  | .local _ .vmem, ⟨0, _⟩ => ⟨S2x1024x6144, .fp8e4m3⟩
  | .local _ .vmem, ⟨1, _⟩ => ⟨S2x1024, .f32⟩
  | .local _ .vmem, ⟨2, _⟩ => ⟨S6144x160, .bf16⟩
  | .local _ .vmem, ⟨3, _⟩ => ⟨S2x1024x6, .i32⟩
  | .local _ .vmem, ⟨4, _⟩ => ⟨S2x1024x6, .bf16⟩
  | .local _ .vmem, ⟨5, _⟩ => ⟨S2x1024x6144, .bf16⟩
  | .local _ .vmem, ⟨6, _⟩ => ⟨S6144x160, .f32⟩
  | .local _ .vmem, ⟨7, _⟩ => ⟨S2x1024x160, .f32⟩
  | _, _ => ⟨S2x1024x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x6 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x6 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev hb0 : Memref sig .tc .hbm S2048x6144 .fp8e4m3 := Memref.whole main_v0
abbrev hb1 : Memref sig .tc .hbm S2x1024 .f32 := Memref.whole main_arg1
abbrev hb2 : Memref sig .tc .hbm S160x6144 .bf16 := Memref.whole main_v1
abbrev hb3 : Memref sig .tc .hbm S6x2x1024 .i32 := Memref.whole main_v2
abbrev hb4 : Memref sig .tc .hbm S6x2x1024 .bf16 := Memref.whole main_v3
abbrev hb5 : Memref sig .tc .hbm S2048x6144 .bf16 := Memref.whole main_v4_0
abbrev hb6 : Memref sig .tc .hbm S160x6144 .f32 := Memref.whole main_v4_1
abbrev hb7 : Memref sig .tc .hbm S2x160x1024 .f32 := Memref.whole main_v4_2
abbrev sc0 : Memref sig .tc .vmem S2048x6144 .fp8e4m3 := Memref.whole cc0_scratch0
abbrev sc1 : Memref sig .tc .vmem S2x1024 .f32 := Memref.whole cc0_scratch1
abbrev sc2 : Memref sig .tc .vmem S160x6144 .bf16 := Memref.whole cc0_scratch2
abbrev sc3 : Memref sig .tc .vmem S6x2x1024 .i32 := Memref.whole cc0_scratch3
abbrev sc4 : Memref sig .tc .vmem S6x2x1024 .bf16 := Memref.whole cc0_scratch4
abbrev sc5 : Memref sig .tc .vmem S3x2048x512 .bf16 := Memref.whole cc0_scratch5
abbrev sc6 : Memref sig .tc .vmem S160x6144 .f32 := Memref.whole cc0_scratch6
abbrev sc7 : Memref sig .tc .vmem S2x160x1024 .f32 := Memref.whole cc0_scratch7
abbrev sc8 : Memref sig .tc .vmem S2048x160 .bf16 := Memref.whole cc0_scratch8
abbrev sc9 : Memref sig .tc .vmem S160x2048 .bf16 := Memref.whole cc0_scratch9

/-- A memref's contents on core `c`, and the memref held whole at them. -/
abbrev MBuf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : MBuf F c M) : sProp 𝕄 :=
  M.view.loc (c : Thread nD τ) ↦{fullShare} f

set_option sl_exec.dmaWindow true in
set_option sl_exec.dmaWindowLent true in
set_option maxHeartbeats 0 in
/-- The contents the body leaves in the three result arrays, given what it finds in its five operands (`f0`–`f4`), the results
    (`f5`–`f7`) and its ten scratch buffers (`g0`–`g9`), with the run itself: from the operands, results and scratch buffers whole and the
    25 completion counters at zero, the body runs to the operands unchanged, the results at those contents, the scratch buffers at some
    contents and every counter at zero again. -/
def run0 (c : Dev nD)
    (f0 : MBuf F c hb0) (f1 : MBuf F c hb1) (f2 : MBuf F c hb2) (f3 : MBuf F c hb3) (f4 : MBuf F c hb4) (f5 : MBuf F c hb5) (f6 : MBuf F c hb6) (f7 : MBuf F c hb7)
    (g0 : MBuf F c sc0) (g1 : MBuf F c sc1) (g2 : MBuf F c sc2) (g3 : MBuf F c sc3) (g4 : MBuf F c sc4) (g5 : MBuf F c sc5) (g6 : MBuf F c sc6) (g7 : MBuf F c sc7) (g8 : MBuf F c sc8) (g9 : MBuf F c sc9) :
    { R : MBuf F c hb5 × MBuf F c hb6 × MBuf F c hb7 //
      ∀ (W : Waits sig Unit) (K : PUnit → sProp 𝕄),
    iprop(pt c hb0 f0 ∗ pt c hb1 f1 ∗ pt c hb2 f2 ∗ pt c hb3 f3 ∗ pt c hb4 f4 ∗ pt c hb5 f5 ∗ pt c hb6 f6 ∗ pt c hb7 f7
      ∗ pt c sc0 g0 ∗ pt c sc1 g1 ∗ pt c sc2 g2 ∗ pt c sc3 g3 ∗ pt c sc4 g4 ∗ pt c sc5 g5 ∗ pt c sc6 g6 ∗ pt c sc7 g7 ∗ pt c sc8 g8 ∗ pt c sc9 g9
      ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0
      ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
      ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0
      ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
      ∗ owes (c : Thread nD τ) 0 W
      ∗ (iprop(pt c hb0 f0 ∗ pt c hb1 f1 ∗ pt c hb2 f2 ∗ pt c hb3 f3 ∗ pt c hb4 f4 ∗ pt c hb5 R.1 ∗ pt c hb6 R.2.1 ∗ pt c hb7 R.2.2
      ∗ (∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f)
      ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0
      ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
      ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0
      ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
      ∗ (∃ W', owes (c : Thread nD τ) 0 W')) -∗ K ⟨⟩))
      ⊢ wp frame (wpE (defs₀ (F := F)) Variants.none c none) Set.univ (cc0_router_bwd hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) cc0_scratch10 cc0_scratch11 cc0_scratch12 cc0_scratch13 cc0_scratch14) K } := by
  refine ⟨(?_, ?_, ?_), fun W K => ?_⟩
  rotate_left 3
  · simp only [cc0_router_bwd_eq_skeleton]; unfold cc0_router_bwd_skel
    iintro ⟨Hh0, Hh1, Hh2, Hh3, Hh4, Hh5, Hh6, Hh7, Hs0, Hs1, Hs2, Hs3, Hs4, Hs5, Hs6, Hs7, Hs8, Hs9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, HW, Hk⟩
    sl_exec
    sl_step
    iapply Hk
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexists _; iexact HW

end Cert.Kernel.Hand

end
-- ==== Proof.Launch.lean ====
module

public import proofs.«01_k».proof.Proof.Body
public import proofs.«01_k».proof.Proof.Gen.Kernel.Frame
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The result arrays the body writes, and the buffers the lines after it write. -/
def R0 : Finset (Ref sig .tc) := {main_v4_0, main_v4_1, main_v4_2}
def T0 : Finset (Ref sig .tc) := {main_v5, main_v6, main_v7}
/-- The operands the body reads. -/
def H0 : Finset (Ref sig .tc) := {main_v0, main_arg1, main_v1, main_v2, main_v3}
theorem H0_sub : H0 ⊆ Pipeline.restRefs sig cfg0.spec := by decide
theorem R0_sub : R0 ⊆ Pipeline.restRefs sig cfg0.spec \ H0 := by decide
/-- The 25 completion counters of the body's transfers. -/
abbrev osem0 : Fin 25 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 25 → SemLoc sig) j
theorem ownSemFacts0 : Pipeline.OwnSemFacts cfg0.spec osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15, 16, 17, 18, 19, 20, 21, 22, 23, 24] (by decide) (by decide)]; rfl
theorem opPts_eq (c : Dev nD) (V : (b : Ref sig .tc) → Buf (Elt F) ((c : Thread nD τ).loc b)) :
    (bigSep H0 (fun b => ((c : Thread nD τ).loc b) ↦{fullShare} V b) : sProp 𝕄)
      = iprop(pt c hb0 (V main_v0) ∗ pt c hb1 (V main_arg1) ∗ pt c hb2 (V main_v1) ∗ pt c hb3 (V main_v2) ∗ pt c hb4 (V main_v3)) := by
  rw [BI.bigSep_eq_bigSepL_of_eq [main_v0, main_arg1, main_v1, main_v2, main_v3] (by decide) (by decide)]; rfl
theorem resPts_eq (c : Dev nD) (V : (b : Ref sig .tc) → Buf (Elt F) ((c : Thread nD τ).loc b)) :
    (bigSep R0 (fun b => ((c : Thread nD τ).loc b) ↦{fullShare} V b) : sProp 𝕄)
      = iprop(pt c hb5 (V main_v4_0) ∗ pt c hb6 (V main_v4_1) ∗ pt c hb7 (V main_v4_2)) := by
  rw [BI.bigSep_eq_bigSepL_of_eq [main_v4_0, main_v4_1, main_v4_2] (by decide) (by decide)]; rfl
theorem owned_eq (c : Dev nD) :
    (Pipeline.owned R0 c : sProp 𝕄)
      = iprop((∃ f, pt c hb5 f) ∗ (∃ f, pt c hb6 f) ∗ (∃ f, pt c hb7 f)) := by
  unfold Pipeline.owned; rw [BI.bigSep_eq_bigSepL_of_eq [main_v4_0, main_v4_1, main_v4_2] (by decide) (by decide)]; rfl
theorem scratch_eq (c : Dev nD) :
    (Pipeline.scopedRest (Ix := Unit) (Name := ℕ) (U := Pipeline.UD sig nD τ) (Lvl := ℕ) (Val := Elt F) (cfg0.spec) c : sProp 𝕄)
      = iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f)) := by
  rw [scopedRest0_eq]

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The proof data: no windows, the operands kept, the results owned, nothing owed. -/
def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (Gen.V m) c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  rw [show (dats m 0 c).Φ t.succ = Pipeline.ΦDR osem0 cfg0.spec H0 R0 (Gen.V m) c from rfl,
    show (dats m 0 c).Φ t.castSucc = Pipeline.ΦDR osem0 cfg0.spec H0 R0 (Gen.V m) c from rfl,
    Pipeline.ΦDR_eq, scratch_eq, ownSems0_eq, opPts_eq, owned_eq]
  unfold Dat.owesAt Pipeline.owesWithin
  rw [show (dats m 0 c).owed t.castSucc = 0 from rfl, show (dats m 0 c).owed t.succ = 0 from rfl]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24⟩, ⟨Hh0, Hh1, Hh2, Hh3, Hh4⟩, ⟨⟨%f5, Hh5⟩, ⟨%f6, Hh6⟩, ⟨%f7, Hh7⟩⟩⟩, ⟨%W, -, HW⟩, Hw⟩
  iapply (run0 c (Gen.V m c main_v0) (Gen.V m c main_arg1) (Gen.V m c main_v1) (Gen.V m c main_v2) (Gen.V m c main_v3) f5 f6 f7 g0 g1 g2 g3 g4 g5 g6 g7 g8 g9).2 W _
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [HW]; · iexact HW
  iintro ⟨Hh0, Hh1, Hh2, Hh3, Hh4, Hh5, Hh6, Hh7, Hs0, Hs1, Hs2, Hs3, Hs4, Hs5, Hs6, Hs7, Hs8, Hs9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, ⟨%W', HW'⟩⟩
  isplitl [Hs0 Hs1 Hs2 Hs3 Hs4 Hs5 Hs6 Hs7 Hs8 Hs9 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hh0 Hh1 Hh2 Hh3 Hh4 Hh5 Hh6 Hh7]
  · isplitl [Hs0 Hs1 Hs2 Hs3 Hs4 Hs5 Hs6 Hs7 Hs8 Hs9]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      iexact Hq24
    isplitl [Hh0 Hh1 Hh2 Hh3 Hh4]
    · isplitl [Hh0]; · iexact Hh0
      isplitl [Hh1]; · iexact Hh1
      isplitl [Hh2]; · iexact Hh2
      isplitl [Hh3]; · iexact Hh3
      iexact Hh4
    isplitl [Hh5]; · iexists _; iexact Hh5
    isplitl [Hh6]; · iexists _; iexact Hh6
    iexists _; iexact Hh7
  isplitl [HW']
  · iexists W'; isplitr; · ipureintro; exact fun _ _ => Or.inl trivial
    iexact HW'
  iexact Hw

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl <;>
    (rw [Finset.mem_singleton.mp hb |> Proc.devRef_injective _]; decide)

set_option backward.isDefEq.respectTransparency.types false in
theorem run_main : θ_run defs (onTc (τ := τ) (main (F := F))) (s₀ m ρ)
    (fun r => Pipeline.FramePostR cfgs (dats m) 0 (R0 ∪ T0) (Gen.V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps) (hT := sfx_T)
    (hmain := hmain m Variants.none) (hA := fun _ w => w.elim0) (hin := fun _ => .rfl) (hout := fun _ => .rfl)

/-- The program runs to completion, its argument arrays unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.Kernel.Hand

end
-- ==== Proof.IdealBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

abbrev hb0 : Memref sig .tc .hbm S2048x6144 .fp8e4m3 := Memref.whole main_v0
abbrev hb1 : Memref sig .tc .hbm S2x1024 .f32 := Memref.whole main_arg1
abbrev hb2 : Memref sig .tc .hbm S160x6144 .bf16 := Memref.whole main_v1
abbrev hb3 : Memref sig .tc .hbm S6x2x1024 .i32 := Memref.whole main_v2
abbrev hb4 : Memref sig .tc .hbm S6x2x1024 .bf16 := Memref.whole main_v3
abbrev hb5 : Memref sig .tc .hbm S2048x6144 .bf16 := Memref.whole main_v4_0
abbrev hb6 : Memref sig .tc .hbm S160x6144 .f32 := Memref.whole main_v4_1
abbrev hb7 : Memref sig .tc .hbm S2x160x1024 .f32 := Memref.whole main_v4_2
abbrev sc0 : Memref sig .tc .vmem S2048x6144 .fp8e4m3 := Memref.whole cc0_scratch0
abbrev sc1 : Memref sig .tc .vmem S2x1024 .f32 := Memref.whole cc0_scratch1
abbrev sc2 : Memref sig .tc .vmem S160x6144 .bf16 := Memref.whole cc0_scratch2
abbrev sc3 : Memref sig .tc .vmem S6x2x1024 .i32 := Memref.whole cc0_scratch3
abbrev sc4 : Memref sig .tc .vmem S6x2x1024 .bf16 := Memref.whole cc0_scratch4
abbrev sc5 : Memref sig .tc .vmem S3x2048x512 .bf16 := Memref.whole cc0_scratch5
abbrev sc6 : Memref sig .tc .vmem S160x6144 .f32 := Memref.whole cc0_scratch6
abbrev sc7 : Memref sig .tc .vmem S2x160x1024 .f32 := Memref.whole cc0_scratch7
abbrev sc8 : Memref sig .tc .vmem S2048x160 .bf16 := Memref.whole cc0_scratch8
abbrev sc9 : Memref sig .tc .vmem S160x2048 .bf16 := Memref.whole cc0_scratch9

/-- A memref's contents on core `c`, and the memref held whole at them. -/
abbrev MBuf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : MBuf F c M) : sProp 𝕄 :=
  M.view.loc (c : Thread nD τ) ↦{fullShare} f

set_option sl_exec.dmaWindow true in
set_option sl_exec.dmaWindowLent true in
set_option maxHeartbeats 0 in
/-- The contents the body leaves in the three result arrays, given what it finds in its five operands (`f0`–`f4`), the results
    (`f5`–`f7`) and its ten scratch buffers (`g0`–`g9`), with the run itself: from the operands, results and scratch buffers whole and the
    25 completion counters at zero, the body runs to the operands unchanged, the results at those contents, the scratch buffers at some
    contents and every counter at zero again. -/
def run0 (c : Dev nD)
    (f0 : MBuf F c hb0) (f1 : MBuf F c hb1) (f2 : MBuf F c hb2) (f3 : MBuf F c hb3) (f4 : MBuf F c hb4) (f5 : MBuf F c hb5) (f6 : MBuf F c hb6) (f7 : MBuf F c hb7)
    (g0 : MBuf F c sc0) (g1 : MBuf F c sc1) (g2 : MBuf F c sc2) (g3 : MBuf F c sc3) (g4 : MBuf F c sc4) (g5 : MBuf F c sc5) (g6 : MBuf F c sc6) (g7 : MBuf F c sc7) (g8 : MBuf F c sc8) (g9 : MBuf F c sc9) :
    { R : MBuf F c hb5 × MBuf F c hb6 × MBuf F c hb7 //
      ∀ (W : Waits sig Unit) (K : PUnit → sProp 𝕄),
    iprop(pt c hb0 f0 ∗ pt c hb1 f1 ∗ pt c hb2 f2 ∗ pt c hb3 f3 ∗ pt c hb4 f4 ∗ pt c hb5 f5 ∗ pt c hb6 f6 ∗ pt c hb7 f7
      ∗ pt c sc0 g0 ∗ pt c sc1 g1 ∗ pt c sc2 g2 ∗ pt c sc3 g3 ∗ pt c sc4 g4 ∗ pt c sc5 g5 ∗ pt c sc6 g6 ∗ pt c sc7 g7 ∗ pt c sc8 g8 ∗ pt c sc9 g9
      ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0
      ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
      ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0
      ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
      ∗ owes (c : Thread nD τ) 0 W
      ∗ (iprop(pt c hb0 f0 ∗ pt c hb1 f1 ∗ pt c hb2 f2 ∗ pt c hb3 f3 ∗ pt c hb4 f4 ∗ pt c hb5 R.1 ∗ pt c hb6 R.2.1 ∗ pt c hb7 R.2.2
      ∗ (∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f)
      ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0
      ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
      ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0
      ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0
      ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0
      ∗ (∃ W', owes (c : Thread nD τ) 0 W')) -∗ K ⟨⟩))
      ⊢ wp frame (wpE (defs₀ (F := F)) Variants.none c none) Set.univ (cc0_router_bwd hb0 (Memref.isWhole_whole _) hb1 (Memref.isWhole_whole _) hb2 (Memref.isWhole_whole _) hb3 (Memref.isWhole_whole _) hb4 (Memref.isWhole_whole _) hb5 (Memref.isWhole_whole _) hb6 (Memref.isWhole_whole _) hb7 (Memref.isWhole_whole _) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) cc0_scratch10 cc0_scratch11 cc0_scratch12 cc0_scratch13 cc0_scratch14) K } := by
  refine ⟨(?_, ?_, ?_), fun W K => ?_⟩
  rotate_left 3
  · simp only [cc0_router_bwd_eq_skeleton]; unfold cc0_router_bwd_skel
    iintro ⟨Hh0, Hh1, Hh2, Hh3, Hh4, Hh5, Hh6, Hh7, Hs0, Hs1, Hs2, Hs3, Hs4, Hs5, Hs6, Hs7, Hs8, Hs9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, HW, Hk⟩
    sl_exec
    sl_step
    iapply Hk
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexists _; iexact HW

end Cert.KernelIdeal.Hand

end
-- ==== Proof.IdealLaunch.lean ====
module

public import proofs.«01_k».proof.Proof.IdealBody
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The result arrays the body writes, and the buffers the lines after it write. -/
def R0 : Finset (Ref sig .tc) := {main_v4_0, main_v4_1, main_v4_2}
def T0 : Finset (Ref sig .tc) := {main_v5, main_v6, main_v7}
/-- The operands the body reads. -/
def H0 : Finset (Ref sig .tc) := {main_v0, main_arg1, main_v1, main_v2, main_v3}
theorem H0_sub : H0 ⊆ Pipeline.restRefs sig cfg0.spec := by decide
theorem R0_sub : R0 ⊆ Pipeline.restRefs sig cfg0.spec \ H0 := by decide
/-- The 25 completion counters of the body's transfers. -/
abbrev osem0 : Fin 25 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24] : Fin 25 → SemLoc sig) j
theorem ownSemFacts0 : Pipeline.OwnSemFacts cfg0.spec osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3, 4, 5, 6, 7, 8, 9, 10, 11, 12, 13, 14, 15, 16, 17, 18, 19, 20, 21, 22, 23, 24] (by decide) (by decide)]; rfl
theorem opPts_eq (c : Dev nD) (V : (b : Ref sig .tc) → Buf (Elt F) ((c : Thread nD τ).loc b)) :
    (bigSep H0 (fun b => ((c : Thread nD τ).loc b) ↦{fullShare} V b) : sProp 𝕄)
      = iprop(pt c hb0 (V main_v0) ∗ pt c hb1 (V main_arg1) ∗ pt c hb2 (V main_v1) ∗ pt c hb3 (V main_v2) ∗ pt c hb4 (V main_v3)) := by
  rw [BI.bigSep_eq_bigSepL_of_eq [main_v0, main_arg1, main_v1, main_v2, main_v3] (by decide) (by decide)]; rfl
theorem resPts_eq (c : Dev nD) (V : (b : Ref sig .tc) → Buf (Elt F) ((c : Thread nD τ).loc b)) :
    (bigSep R0 (fun b => ((c : Thread nD τ).loc b) ↦{fullShare} V b) : sProp 𝕄)
      = iprop(pt c hb5 (V main_v4_0) ∗ pt c hb6 (V main_v4_1) ∗ pt c hb7 (V main_v4_2)) := by
  rw [BI.bigSep_eq_bigSepL_of_eq [main_v4_0, main_v4_1, main_v4_2] (by decide) (by decide)]; rfl
theorem owned_eq (c : Dev nD) :
    (Pipeline.owned R0 c : sProp 𝕄)
      = iprop((∃ f, pt c hb5 f) ∗ (∃ f, pt c hb6 f) ∗ (∃ f, pt c hb7 f)) := by
  unfold Pipeline.owned; rw [BI.bigSep_eq_bigSepL_of_eq [main_v4_0, main_v4_1, main_v4_2] (by decide) (by decide)]; rfl
theorem scratch_eq (c : Dev nD) :
    (Pipeline.scopedRest (Ix := Unit) (Name := ℕ) (U := Pipeline.UD sig nD τ) (Lvl := ℕ) (Val := Elt F) (cfg0.spec) c : sProp 𝕄)
      = iprop((∃ f, pt c sc0 f) ∗ (∃ f, pt c sc1 f) ∗ (∃ f, pt c sc2 f) ∗ (∃ f, pt c sc3 f) ∗ (∃ f, pt c sc4 f) ∗ (∃ f, pt c sc5 f) ∗ (∃ f, pt c sc6 f) ∗ (∃ f, pt c sc7 f) ∗ (∃ f, pt c sc8 f) ∗ (∃ f, pt c sc9 f)) := by
  rw [scopedRest0_eq]

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (Gen.V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The proof data: no windows, the operands kept, the results owned, nothing owed. -/
def dats (_ : Fin 1) (c : Dev nD) : Dat τ (Elt F) Unit ℕ (Pipeline.UD sig nD τ) ℕ cfg0 c where
  A w := w.elim0
  after w t := w.elim0
  Φ _ := Pipeline.ΦDR osem0 cfg0.spec H0 R0 (Gen.V m) c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  rw [show (dats m 0 c).Φ t.succ = Pipeline.ΦDR osem0 cfg0.spec H0 R0 (Gen.V m) c from rfl,
    show (dats m 0 c).Φ t.castSucc = Pipeline.ΦDR osem0 cfg0.spec H0 R0 (Gen.V m) c from rfl,
    Pipeline.ΦDR_eq, scratch_eq, ownSems0_eq, opPts_eq, owned_eq]
  unfold Dat.owesAt Pipeline.owesWithin
  rw [show (dats m 0 c).owed t.castSucc = 0 from rfl, show (dats m 0 c).owed t.succ = 0 from rfl]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24⟩, ⟨Hh0, Hh1, Hh2, Hh3, Hh4⟩, ⟨⟨%f5, Hh5⟩, ⟨%f6, Hh6⟩, ⟨%f7, Hh7⟩⟩⟩, ⟨%W, -, HW⟩, Hw⟩
  iapply (run0 c (Gen.V m c main_v0) (Gen.V m c main_arg1) (Gen.V m c main_v1) (Gen.V m c main_v2) (Gen.V m c main_v3) f5 f6 f7 g0 g1 g2 g3 g4 g5 g6 g7 g8 g9).2 W _
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [HW]; · iexact HW
  iintro ⟨Hh0, Hh1, Hh2, Hh3, Hh4, Hh5, Hh6, Hh7, Hs0, Hs1, Hs2, Hs3, Hs4, Hs5, Hs6, Hs7, Hs8, Hs9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, ⟨%W', HW'⟩⟩
  isplitl [Hs0 Hs1 Hs2 Hs3 Hs4 Hs5 Hs6 Hs7 Hs8 Hs9 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hh0 Hh1 Hh2 Hh3 Hh4 Hh5 Hh6 Hh7]
  · isplitl [Hs0 Hs1 Hs2 Hs3 Hs4 Hs5 Hs6 Hs7 Hs8 Hs9]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hg]; · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      iexact Hq24
    isplitl [Hh0 Hh1 Hh2 Hh3 Hh4]
    · isplitl [Hh0]; · iexact Hh0
      isplitl [Hh1]; · iexact Hh1
      isplitl [Hh2]; · iexact Hh2
      isplitl [Hh3]; · iexact Hh3
      iexact Hh4
    isplitl [Hh5]; · iexists _; iexact Hh5
    isplitl [Hh6]; · iexists _; iexact Hh6
    iexists _; iexact Hh7
  isplitl [HW']
  · iexists W'; isplitr; · ipureintro; exact fun _ _ => Or.inl trivial
    iexact HW'
  iexact Hw

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl <;>
    (rw [Finset.mem_singleton.mp hb |> Proc.devRef_injective _]; decide)

set_option backward.isDefEq.respectTransparency.types false in
theorem run_main : θ_run defs (onTc (τ := τ) (main (F := F))) (s₀ m ρ)
    (fun r => Pipeline.FramePostR cfgs (dats m) 0 (R0 ∪ T0) (Gen.V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := Gen.V0 m) (opss := [hostOps1]) (hsub := sfx_sub) (hfresh := sfx_fresh) (hkeep := sfx_keeps) (hT := sfx_T)
    (hmain := hmain m Variants.none) (hA := fun _ w => w.elim0) (hin := fun _ => .rfl) (hout := fun _ => .rfl)

/-- The program runs to completion, its argument arrays unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c),
      ((h.1 c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.RowMath.lean ====
module

public import Idealize.ShloMosaic.Lib.Pointwise

/-! What the router's backward pass computes for one token over the extended reals, as functions of the token's row of logits and of its
six chosen experts: the softmax of the row, the gradient that reaches the softmax, and the gradient of the logits. Every value of the
kernel and of the reference is stated in these. -/

@[expose] public section

noncomputable section

namespace Cert.RouterMath

open Idealize.ShloMosaic

/-- The value that the running maximum of a row starts from (the bit pattern of minus infinity). -/
abbrev start : EReal := Ideal.ofBits .f32 0xFF800000#32

/-- The maximum of a row of 160 logits. -/
def rowMax (L : Fin 160 → EReal) : EReal := Finset.univ.fold max start L

/-- The softmax of a row of 160 logits, the row's maximum taken off first. -/
def rowP (L : Fin 160 → EReal) (e : Fin 160) : EReal :=
  Ideal.div (Ideal.exp (L e - rowMax L)) (∑ e', Ideal.exp (L e' - rowMax L))

/-- The gradient that reaches the softmax at expert `e`: the sum over the six chosen experts of the gate's gradient where the choice is
    `e`, and of zero where it is not. -/
def rowDp (id : Fin 6 → BitVec 32) (dg : Fin 6 → EReal) (e : Fin 160) : EReal :=
  ∑ k, Scalar.select (IntOp.cmpi .eq (id k) (BitVec.ofNat 32 ↑e)) (dg k) 0

/-- The gradient of the logits from the softmax `p` and the gradient `dp` that reaches it: `p * (dp - ∑ p * dp)`. -/
def rowDl (p dp : Fin 160 → EReal) (e : Fin 160) : EReal := p e * (dp e - ∑ e', p e' * dp e')

/-- Taking the maximum with the value a running maximum starts from changes nothing. -/
theorem max_start_rowMax (L : Fin 160 → EReal) : max start (Finset.univ.fold max start L) = rowMax L :=
  max_eq_right ((Finset.le_fold_max _).mpr (Or.inl le_rfl))

/-- The gradient of the logits of token `(b, s)` at expert `e`, from the tokens `x`, their scales `sc`, the router's weights `w`, the
    chosen experts `id` and the gates' gradients `dg`. -/
def dlogit (x : Fin 2 → Fin 1024 → Fin 6144 → EReal) (sc : Fin 2 → Fin 1024 → EReal) (w : Fin 6144 → Fin 160 → EReal)
    (id : Fin 2 → Fin 1024 → Fin 6 → BitVec 32) (dg : Fin 2 → Fin 1024 → Fin 6 → EReal) (b : Fin 2) (s : Fin 1024) (e : Fin 160) : EReal :=
  rowDl (rowP fun e => (∑ d, x b s d * w d e) * sc b s) (rowDp (id b s) (dg b s)) e

end Cert.RouterMath

end
-- ==== Proof.Blocks.lean ====
module

public import proofs.«01_k».proof.Proof.Gen.KernelIdeal.Skeleton
public import proofs.«01_k».proof.Proof.RowMath

/-! What the kernel computes on one block of 512 tokens, written once: the kernel does it four times, each time cut into other pieces. The
first half names the operations of one block and of one block of 512 columns; the second half reads them at an index. -/

@[expose] public section

set_option maxRecDepth 16384

noncomputable section

namespace Cert.KernelIdeal.Hand

open Cert.KernelIdeal Cert.KernelIdeal.Gen Cert.RouterMath
open Idealize.ShloMosaic Idealize.ShloMosaic.TcCoe

variable {F : FTy → Type} [FloatOps F]

/-! ### The operations -/

/-- The softmax over the experts of a block's scaled logits. -/
def blockP (s : Vec F S1x512 .f32) (w : Vec F S160x6144 .bf16) (x : Vec F S512x6144 .fp8e4m3) : FVec F S160x512 .f32 := k0_pay1 s w x

/-- One chosen expert's contribution to the gradient that reaches the softmax, for a block of the first batch row. -/
def hit0 (id : Vec F S1x1x512 .i32) (d : Vec F S1x2x512 .bf16) : FVec F S160x512 .f32 :=
  select (cmpi .eq (broadcastTo S160x512 (shapeCast S1x512 id shapeCasts_S1x1x512_S1x512) broadcasts_S1x512_S160x512)
      (iota .tc S160x512 32 [0] iota_S160x512_d0_w32))
    (broadcastTo S160x512 (shapeCast S1x512 (extractStridedSlice S1x512 ![0, 0]
      (extf .f32 (shapeCast S2x512 d shapeCasts_S1x2x512_S2x512 : FVec F S2x512 .bf16) bitsLt_bf16_f32) slices_S2x512_o0_0_S1x512) shapeCasts_S1x512_S1x512)
      broadcasts_S1x512_S160x512)
    (broadcast S160x512 (Scalar.ofBits .f32 0x00000000#32))

/-- The same for a block of the second batch row. -/
def hit1 (id : Vec F S1x1x512 .i32) (d : Vec F S1x2x512 .bf16) : FVec F S160x512 .f32 :=
  select (cmpi .eq (broadcastTo S160x512 (shapeCast S1x512 id shapeCasts_S1x1x512_S1x512) broadcasts_S1x512_S160x512)
      (iota .tc S160x512 32 [0] iota_S160x512_d0_w32))
    (broadcastTo S160x512 (shapeCast S1x512 (extractStridedSlice S1x512 ![1, 0]
      (extf .f32 (shapeCast S2x512 d shapeCasts_S1x2x512_S2x512 : FVec F S2x512 .bf16) bitsLt_bf16_f32) slices_S2x512_o1_0_S1x512) shapeCasts_S1x512_S1x512)
      broadcasts_S1x512_S160x512)
    (broadcast S160x512 (Scalar.ofBits .f32 0x00000000#32))

/-- The gradient that reaches the softmax: the six contributions added to zero in order. -/
def blockDp (h : Fin 6 → FVec F S160x512 .f32) : FVec F S160x512 .f32 :=
  addf (addf (addf (addf (addf (addf (broadcast S160x512 (Scalar.ofBits .f32 0x00000000#32)) (h 0)) (h 1)) (h 2)) (h 3)) (h 4)) (h 5)

/-- The gradient of a block's logits. -/
def blockDl (p dp : FVec F S160x512 .f32) : FVec F S160x512 .f32 :=
  mulf p (subf dp (broadcastTo S160x512 (shapeCast S1x512
    (multiReduction .add [0] S512 (mulf p dp) 0x00000000#32 reduces_S160x512_S512 (.inl rfl) rfl) shapeCasts_S512_S1x512) broadcasts_S1x512_S160x512))

/-- The block of the third result. -/
def blockOut (dl : FVec F S160x512 .f32) : FVec F S1x160x512 .f32 := k0_pay7 dl

/-- The gradient times the tokens' scales, both rounded. -/
def blockScaled (s : Vec F S1x512 .f32) (dl : FVec F S160x512 .f32) : FVec F S160x512 .bf16 := k0_pay9 s dl

/-- The rounded gradient with the tokens first. -/
def blockFlip (dl : FVec F S160x512 .f32) : FVec F S512x160 .bf16 := k0_pay10 dl

/-- A block of 512 columns of the first result. -/
def colDx (dl : Vec F S2048x160 .bf16) (w : Vec F S160x512 .bf16) : FVec F S1x2048x512 .bf16 := k0_pay41 dl w

/-- A block of 512 columns of the second result. -/
def colDw (dls : Vec F S160x2048 .bf16) (x : Vec F S2048x512 .fp8e4m3) : FVec F S160x512 .f32 := k0_pay42 dls x

/-! ### The operations at an index -/

/-- A block's softmax, at expert `e` of its token `j`, is the softmax of the token's row of logits. -/
theorem blockP_at (s : Vec Ideal S1x512 .f32) (w : Vec Ideal S160x6144 .bf16) (x : Vec Ideal S512x6144 .fp8e4m3) (e : Fin 160) (j : Fin 512) :
    blockP s w x (ix2 e j) = rowP (fun e => (∑ d, x (ix2 j d) * w (ix2 e d)) * s (ix2 0 j)) e := by
  pointwise [blockP, k0_pay1]
  unfold rowP rowMax
  simp only [mul_comm (w _)]

/-- A contribution at an index, for a block of the first batch row. -/
theorem hit0_at (id : Vec Ideal S1x1x512 .i32) (d : Vec Ideal S1x2x512 .bf16) (e : Fin 160) (j : Fin 512) :
    hit0 id d (ix2 e j) = Scalar.select (IntOp.cmpi .eq (id (ix3 0 0 j)) (BitVec.ofNat 32 ↑e)) (d (ix3 0 0 j)) (0 : EReal) := by
  pointwise [hit0]

/-- A contribution at an index, for a block of the second batch row. -/
theorem hit1_at (id : Vec Ideal S1x1x512 .i32) (d : Vec Ideal S1x2x512 .bf16) (e : Fin 160) (j : Fin 512) :
    hit1 id d (ix2 e j) = Scalar.select (IntOp.cmpi .eq (id (ix3 0 0 j)) (BitVec.ofNat 32 ↑e)) (d (ix3 0 1 j)) (0 : EReal) := by
  pointwise [hit1]

/-- The gradient of a block's logits at an index. -/
theorem blockDl_at (p dp : FVec Ideal S160x512 .f32) (e : Fin 160) (j : Fin 512) :
    blockDl p dp (ix2 e j) = rowDl (fun e => p (ix2 e j)) (fun e => dp (ix2 e j)) e := by
  pointwise [blockDl]
  rfl

/-- The six contributions at an index are their sum. -/
theorem blockDp_at (h : Fin 6 → FVec Ideal S160x512 .f32) (e : Fin 160) (j : Fin 512) :
    blockDp h (ix2 e j) = ∑ k, h k (ix2 e j) := by
  pointwise [blockDp]
  rw [Fin.sum_univ_six]

theorem blockOut_at (dl : FVec Ideal S160x512 .f32) (i : Fin 1) (e : Fin 160) (j : Fin 512) : blockOut dl (ix3 i e j) = dl (ix2 e j) := by
  pointwise [blockOut, k0_pay7]

theorem blockScaled_at (s : Vec Ideal S1x512 .f32) (dl : FVec Ideal S160x512 .f32) (e : Fin 160) (j : Fin 512) :
    blockScaled s dl (ix2 e j) = dl (ix2 e j) * s (ix2 0 j) := by
  pointwise [blockScaled, k0_pay9, k0_pay8]

theorem blockFlip_at (dl : FVec Ideal S160x512 .f32) (e : Fin 160) (j : Fin 512) : blockFlip dl (ix2 j e) = dl (ix2 e j) := by
  pointwise [blockFlip, k0_pay10, k0_pay8]

/-- A column block of the first result at an index: the sum over the experts. -/
theorem colDx_at (dl : Vec Ideal S2048x160 .bf16) (w : Vec Ideal S160x512 .bf16) (i : Fin 1) (t : Fin 2048) (j : Fin 512) :
    colDx dl w (ix3 i t j) = ∑ e, dl (ix2 t e) * w (ix2 e j) := by
  pointwise [colDx, k0_pay41]

/-- A column block of the second result at an index: the sum over the tokens. -/
theorem colDw_at (dls : Vec Ideal S160x2048 .bf16) (x : Vec Ideal S2048x512 .fp8e4m3) (e : Fin 160) (j : Fin 512) :
    colDw dls x (ix2 e j) = ∑ t, dls (ix2 e t) * x (ix2 t j) := by
  pointwise [colDw, k0_pay42]

end Cert.KernelIdeal.Hand

end
-- ==== Proof.Loads.lean ====
module

public import proofs.«01_k».proof.Proof.IdealBody
public import proofs.«01_k».proof.Proof.Blocks

/-! What the body's loads read, as elements of the operands: the scratch buffers the operands were copied to hold the operands. Then the
gradient of the logits of each of the four blocks of 512 tokens, as one term of the operands. -/

@[expose] public section

set_option maxRecDepth 16384

noncomputable section

namespace Cert.KernelIdeal.Hand

open Cert.KernelIdeal Cert.KernelIdeal.Gen Cert.RouterMath
open Idealize.ShloMosaic Idealize.ShloMosaic.TcCoe

variable {F : FTy → Type} [FloatOps F]

/-! ### Loads -/

theorem copy_scale (c : Dev nD) (f1 : MBuf F c hb1) (g1 : MBuf F c sc1) :
    View.write (Elt F) sc1.view g1 (run0.sl.dma0_1 c f1) Finset.univ = f1 := View.write_whole_univ _ _ _

theorem copy_w (c : Dev nD) (f2 : MBuf F c hb2) (g2 : MBuf F c sc2) :
    View.write (Elt F) sc2.view g2 (run0.sl.dma0 c f2) Finset.univ = f2 := View.write_whole_univ _ _ _

theorem copy_id (c : Dev nD) (f3 : MBuf F c hb3) (g3 : MBuf F c sc3) :
    View.write (Elt F) sc3.view g3 (run0.sl.dma0_2 c f3) Finset.univ = f3 := View.write_whole_univ _ _ _

theorem copy_dg (c : Dev nD) (f4 : MBuf F c hb4) (g4 : MBuf F c sc4) :
    View.write (Elt F) sc4.view g4 (run0.sl.dma0_3 c f4) Finset.univ = f4 := View.write_whole_univ _ _ _

/-- The four copies of the tokens' rows, newest first. -/
abbrev xPieces (c : Dev nD) (f0 : MBuf F c hb0) : List (View.Piece (Elt F) S2048x6144 .fp8e4m3) :=
  [⟨Rect.unit ![1536, 0] S512x6144.size (by decide), run0.sl.dma0_7 c f0⟩, ⟨Rect.unit ![1024, 0] S512x6144.size (by decide), run0.sl.dma0_6 c f0⟩,
    ⟨Rect.unit ![512, 0] S512x6144.size (by decide), run0.sl.dma0_5 c f0⟩, ⟨Rect.unit ![0, 0] S512x6144.size (by decide), run0.sl.dma0_4 c f0⟩]

theorem load_x (c : Dev nD) (f0 : MBuf F c hb0) (B : LoadRect S2048x6144) :
    sc0.view.readCov (xPieces c f0) B = fun y => f0 (B.idx y) := by
  funext y
  show View.readAt (Elt F) sc0.view B _ y = _
  rw [View.readAt_apply]
  refine View.read_writes_apply_of_pieces sc0.view _ f0 _ ?_ _ (View.cover_of_tiled (s := S2048x6144) _ S512x6144.size rfl _)
  intro p hp x
  simp only [xPieces, List.mem_cons, List.not_mem_nil, or_false] at hp
  rcases hp with rfl | rfl | rfl | rfl <;> rfl

/-! ### The operands' blocks -/

/-- The scales of the 512 tokens of row `b` from token `o` on. -/
def tileS (f1 : Vec F S2x1024 .f32) (b o : ℕ) (h : ∀ a, ![b, o] a + S1x512.size a ≤ S2x1024.size a := by decide) : Vec F S1x512 .f32 :=
  fun y => f1 ((Rect.unit (s := S2x1024) ![b, o] S1x512.size h).toLoadRect.idx y)

/-- The 512 tokens from the flattened row `t` on. -/
def tileX (f0 : Vec F S2048x6144 .fp8e4m3) (t : ℕ) (h : ∀ a, ![t, 0] a + S512x6144.size a ≤ S2048x6144.size a := by decide) :
    Vec F S512x6144 .fp8e4m3 :=
  fun y => f0 ((Rect.unit (s := S2048x6144) ![t, 0] S512x6144.size h).toLoadRect.idx y)

/-- The `k`-th choices of the 512 tokens of row `b` from token `o` on. -/
def tileI (f3 : Vec F S6x2x1024 .i32) (k b o : ℕ) (h : ∀ a, ![k, b, o] a + S1x1x512.size a ≤ S6x2x1024.size a := by decide) :
    Vec F S1x1x512 .i32 :=
  fun y => f3 ((Rect.unit (s := S6x2x1024) ![k, b, o] S1x1x512.size h).toLoadRect.idx y)

/-- The gradients of the `k`-th gates of the tokens from token `o` on, both rows. -/
def tileD (f4 : Vec F S6x2x1024 .bf16) (k o : ℕ) (h : ∀ a, ![k, 0, o] a + S1x2x512.size a ≤ S6x2x1024.size a := by decide) :
    Vec F S1x2x512 .bf16 :=
  fun y => f4 ((Rect.unit (s := S6x2x1024) ![k, 0, o] S1x2x512.size h).toLoadRect.idx y)

/-- The router's weights as one load reads them. -/
def tileW (f2 : Vec F S160x6144 .bf16) : Vec F S160x6144 .bf16 :=
  fun y => f2 ((Rect.unit (s := S160x6144) ![0, 0] S160x6144.size inb_S160x6144_S160x6144_0_0).toLoadRect.idx y)

/-- The 512 columns of the weights from column `j` on. -/
def colW (f2 : Vec F S160x6144 .bf16) (j : ℕ) (h : ∀ a, ![0, j] a + S160x512.size a ≤ S160x6144.size a := by decide) : Vec F S160x512 .bf16 :=
  fun y => f2 ((Rect.unit (s := S160x6144) ![0, j] S160x512.size h).toLoadRect.idx y)

/-- The 512 columns of the tokens from column `j` on. -/
def colX (f0 : Vec F S2048x6144 .fp8e4m3) (j : ℕ) (h : ∀ a, ![0, j] a + S2048x512.size a ≤ S2048x6144.size a := by decide) :
    Vec F S2048x512 .fp8e4m3 :=
  fun y => f0 ((Rect.unit (s := S2048x6144) ![0, j] S2048x512.size h).toLoadRect.idx y)

/-! ### The gradient of the logits of the four blocks -/

section Grads
variable (f0 : Vec F S2048x6144 .fp8e4m3) (f1 : Vec F S2x1024 .f32) (f2 : Vec F S160x6144 .bf16) (f3 : Vec F S6x2x1024 .i32)
  (f4 : Vec F S6x2x1024 .bf16)

/-- The gradient of the logits of the first block of 512 tokens: experts down, tokens across. -/
def grad0 : FVec F S160x512 .f32 :=
  blockDl (blockP (tileS f1 0 0) (tileW f2) (tileX f0 0))
    (blockDp ![hit0 (tileI f3 0 0 0) (tileD f4 0 0), hit0 (tileI f3 1 0 0) (tileD f4 1 0), hit0 (tileI f3 2 0 0) (tileD f4 2 0),
      hit0 (tileI f3 3 0 0) (tileD f4 3 0), hit0 (tileI f3 4 0 0) (tileD f4 4 0), hit0 (tileI f3 5 0 0) (tileD f4 5 0)])

/-- The gradient of the logits of the second block of 512 tokens: experts down, tokens across. -/
def grad1 : FVec F S160x512 .f32 :=
  blockDl (blockP (tileS f1 0 512) (tileW f2) (tileX f0 512))
    (blockDp ![hit0 (tileI f3 0 0 512) (tileD f4 0 512), hit0 (tileI f3 1 0 512) (tileD f4 1 512), hit0 (tileI f3 2 0 512) (tileD f4 2 512),
      hit0 (tileI f3 3 0 512) (tileD f4 3 512), hit0 (tileI f3 4 0 512) (tileD f4 4 512), hit0 (tileI f3 5 0 512) (tileD f4 5 512)])

/-- The gradient of the logits of the third block of 512 tokens: experts down, tokens across. -/
def grad2 : FVec F S160x512 .f32 :=
  blockDl (blockP (tileS f1 1 0) (tileW f2) (tileX f0 1024))
    (blockDp ![hit1 (tileI f3 0 1 0) (tileD f4 0 0), hit1 (tileI f3 1 1 0) (tileD f4 1 0), hit1 (tileI f3 2 1 0) (tileD f4 2 0),
      hit1 (tileI f3 3 1 0) (tileD f4 3 0), hit1 (tileI f3 4 1 0) (tileD f4 4 0), hit1 (tileI f3 5 1 0) (tileD f4 5 0)])

/-- The gradient of the logits of the fourth block of 512 tokens: experts down, tokens across. -/
def grad3 : FVec F S160x512 .f32 :=
  blockDl (blockP (tileS f1 1 512) (tileW f2) (tileX f0 1536))
    (blockDp ![hit1 (tileI f3 0 1 512) (tileD f4 0 512), hit1 (tileI f3 1 1 512) (tileD f4 1 512), hit1 (tileI f3 2 1 512) (tileD f4 2 512),
      hit1 (tileI f3 3 1 512) (tileD f4 3 512), hit1 (tileI f3 4 1 512) (tileD f4 4 512), hit1 (tileI f3 5 1 512) (tileD f4 5 512)])

end Grads

section Body
variable (c : Dev nD) (f0 : MBuf F c hb0) (f1 : MBuf F c hb1) (f2 : MBuf F c hb2) (f3 : MBuf F c hb3) (f4 : MBuf F c hb4)
  (g1 : MBuf F c sc1) (g2 : MBuf F c sc2) (g3 : MBuf F c sc3) (g4 : MBuf F c sc4)

/-- The first block's gradient in the body. -/
theorem body_grad0 : run0.sl.r_7 c f0 f1 f2 f3 f4 g1 g2 g3 g4 = grad0 f0 f1 f2 f3 f4 := by
  delta run0.sl.r_7 run0.sl.r_1 run0.sl.r_4 run0.sl.r_3 run0.sl.r_5 run0.sl.r_6 run0.sl.r_2 run0.sl.v39
  beta_reduce
  rw [copy_scale, copy_w, copy_id, copy_dg, load_x]
  rfl

/-- The second block's gradient as the body computes it. -/
def raw1 : FVec F S160x512 .f32 :=
  k0_pay16 (run0.sl.r_10 c f0 f1 f2 g1 g2) (run0.sl.r_14 c f3 f4 g3 g4) (run0.sl.r_15 c f0 f1 f2 f3 f4 g1 g2 g3 g4)

/-- The second block's gradient in the body. -/
theorem body_grad1 : raw1 c f0 f1 f2 f3 f4 g1 g2 g3 g4 = grad1 f0 f1 f2 f3 f4 := by
  delta raw1 run0.sl.r_15 run0.sl.r_14 run0.sl.r_12 run0.sl.r_10 run0.sl.r_11 run0.sl.r_13 run0.sl.v157
  beta_reduce
  rw [copy_scale, copy_w, copy_id, copy_dg, load_x]
  rfl

/-- The third block's gradient as the body computes it. -/
def raw2 : FVec F S160x512 .f32 :=
  k0_pay24 run0.sl.v32 (run0.sl.r_18 c f0 f1 f2 g1 g2) (run0.sl.r_20 c f3 f4 g3 g4)
    (View.readAt (Elt F) sc3.view (Rect.unit (s := S6x2x1024) ![5, 1, 0] S1x1x512.size inb_S6x2x1024_S1x1x512_5_1_0).toLoadRect
      (View.write (Elt F) sc3.view g3 (run0.sl.dma0_2 c f3) Finset.univ))
    (View.readAt (Elt F) sc4.view (Rect.unit (s := S6x2x1024) ![5, 0, 0] S1x2x512.size inb_S6x2x1024_S1x2x512_5_0_0).toLoadRect
      (View.write (Elt F) sc4.view g4 (run0.sl.dma0_3 c f4) Finset.univ))

/-- The third block's gradient in the body. -/
theorem body_grad2 : raw2 c f0 f1 f2 f3 f4 g1 g2 g3 g4 = grad2 f0 f1 f2 f3 f4 := by
  delta raw2 run0.sl.r_20 run0.sl.r_19 run0.sl.r_18 run0.sl.r_17 run0.sl.r_16 run0.sl.v281
  beta_reduce
  rw [copy_scale, copy_w, copy_id, copy_dg, load_x]
  rfl

/-- The fourth block's gradient as the body computes it. -/
def raw3 : FVec F S160x512 .f32 :=
  k0_pay36 run0.sl.v32 (run0.sl.r_22 c f0 f1 f2 g1 g2) (run0.sl.r_26 c f3 f4 g3 g4) (run0.sl.r_27 c f3 g3) run0.sl.cst_241
    (run0.sl.r_28 c f4 g4)
    (View.readAt (Elt F) sc3.view (Rect.unit (s := S6x2x1024) ![5, 1, 512] S1x1x512.size inb_S6x2x1024_S1x1x512_5_1_512).toLoadRect
      (View.write (Elt F) sc3.view g3 (run0.sl.dma0_2 c f3) Finset.univ))
    (View.readAt (Elt F) sc4.view (Rect.unit (s := S6x2x1024) ![5, 0, 512] S1x2x512.size inb_S6x2x1024_S1x2x512_5_0_512).toLoadRect
      (View.write (Elt F) sc4.view g4 (run0.sl.dma0_3 c f4) Finset.univ))

/-- The fourth block's gradient in the body. -/
theorem body_grad3 : raw3 c f0 f1 f2 f3 f4 g1 g2 g3 g4 = grad3 f0 f1 f2 f3 f4 := by
  delta raw3 run0.sl.r_28 run0.sl.r_27 run0.sl.r_26 run0.sl.r_25 run0.sl.r_24 run0.sl.r_23 run0.sl.r_22 run0.sl.v399
  beta_reduce
  rw [copy_scale, copy_w, copy_id, copy_dg, load_x]
  rfl

/-! ### What the body stores of the four blocks -/

/-- The third result's blocks, newest first. -/
theorem body_outs : run0.sl.Hs7_4 c f0 f1 f2 f3 f4 g1 g2 g3 g4 =
    [⟨Rect.unit ![1, 0, 512] S1x160x512.size inb_S2x160x1024_S1x160x512_1_0_512, blockOut (grad3 f0 f1 f2 f3 f4)⟩,
      ⟨Rect.unit ![1, 0, 0] S1x160x512.size inb_S2x160x1024_S1x160x512_1_0_0, blockOut (grad2 f0 f1 f2 f3 f4)⟩,
      ⟨Rect.unit ![0, 0, 512] S1x160x512.size inb_S2x160x1024_S1x160x512_0_0_512, blockOut (grad1 f0 f1 f2 f3 f4)⟩,
      ⟨Rect.unit ![0, 0, 0] S1x160x512.size inb_S2x160x1024_S1x160x512_0_0_0, blockOut (grad0 f0 f1 f2 f3 f4)⟩] := by
  rw [← body_grad0 c f0 f1 f2 f3 f4 g1 g2 g3 g4, ← body_grad1 c f0 f1 f2 f3 f4 g1 g2 g3 g4, ← body_grad2 c f0 f1 f2 f3 f4 g1 g2 g3 g4, ← body_grad3 c f0 f1 f2 f3 f4 g1 g2 g3 g4]
  rfl

/-- The third result's first row's blocks, newest first. -/
theorem body_outs_row0 : run0.sl.Hs7_2 c f0 f1 f2 f3 f4 g1 g2 g3 g4 =
    [⟨Rect.unit ![0, 0, 512] S1x160x512.size inb_S2x160x1024_S1x160x512_0_0_512, blockOut (grad1 f0 f1 f2 f3 f4)⟩,
      ⟨Rect.unit ![0, 0, 0] S1x160x512.size inb_S2x160x1024_S1x160x512_0_0_0, blockOut (grad0 f0 f1 f2 f3 f4)⟩] := by
  rw [← body_grad0 c f0 f1 f2 f3 f4 g1 g2 g3 g4, ← body_grad1 c f0 f1 f2 f3 f4 g1 g2 g3 g4]
  rfl

/-- The rounded gradient with the tokens first, its blocks newest first. -/
theorem body_flips : run0.sl.Hs8_4 c f0 f1 f2 f3 f4 g1 g2 g3 g4 =
    [⟨Rect.unit ![1536, 0] S512x160.size inb_S2048x160_S512x160_1536_0, blockFlip (grad3 f0 f1 f2 f3 f4)⟩,
      ⟨Rect.unit ![1024, 0] S512x160.size inb_S2048x160_S512x160_1024_0, blockFlip (grad2 f0 f1 f2 f3 f4)⟩,
      ⟨Rect.unit ![512, 0] S512x160.size inb_S2048x160_S512x160_512_0, blockFlip (grad1 f0 f1 f2 f3 f4)⟩,
      ⟨Rect.unit ![0, 0] S512x160.size inb_S2048x160_S512x160_0_0, blockFlip (grad0 f0 f1 f2 f3 f4)⟩] := by
  rw [← body_grad0 c f0 f1 f2 f3 f4 g1 g2 g3 g4, ← body_grad1 c f0 f1 f2 f3 f4 g1 g2 g3 g4, ← body_grad2 c f0 f1 f2 f3 f4 g1 g2 g3 g4, ← body_grad3 c f0 f1 f2 f3 f4 g1 g2 g3 g4]
  rfl

/-- The gradient times the scales, its blocks newest first. -/
theorem body_scaled : run0.sl.Hs9_4 c f0 f1 f2 f3 f4 g1 g2 g3 g4 =
    [⟨Rect.unit ![0, 1536] S160x512.size inb_S160x2048_S160x512_0_1536, blockScaled (tileS f1 1 512) (grad3 f0 f1 f2 f3 f4)⟩,
      ⟨Rect.unit ![0, 1024] S160x512.size inb_S160x2048_S160x512_0_1024, blockScaled (tileS f1 1 0) (grad2 f0 f1 f2 f3 f4)⟩,
      ⟨Rect.unit ![0, 512] S160x512.size inb_S160x2048_S160x512_0_512, blockScaled (tileS f1 0 512) (grad1 f0 f1 f2 f3 f4)⟩,
      ⟨Rect.unit ![0, 0] S160x512.size inb_S160x2048_S160x512_0_0, blockScaled (tileS f1 0 0) (grad0 f0 f1 f2 f3 f4)⟩] := by
  have e0 : run0.sl.r c f1 g1 = tileS f1 0 0 := by delta run0.sl.r; beta_reduce; rw [copy_scale]; rfl
  have e1 : run0.sl.r_9 c f1 g1 = tileS f1 0 512 := by delta run0.sl.r_9; beta_reduce; rw [copy_scale]; rfl
  have e2 : run0.sl.r_16 c f1 g1 = tileS f1 1 0 := by delta run0.sl.r_16; beta_reduce; rw [copy_scale]; rfl
  have e3 : run0.sl.r_21 c f1 g1 = tileS f1 1 512 := by delta run0.sl.r_21; beta_reduce; rw [copy_scale]; rfl
  rw [← body_grad0 c f0 f1 f2 f3 f4 g1 g2 g3 g4, ← body_grad1 c f0 f1 f2 f3 f4 g1 g2 g3 g4, ← body_grad2 c f0 f1 f2 f3 f4 g1 g2 g3 g4, ← body_grad3 c f0 f1 f2 f3 f4 g1 g2 g3 g4,
    ← e0, ← e1, ← e2, ← e3]
  rfl

end Body

end Cert.KernelIdeal.Hand

end
-- ==== Proof.Columns.lean ====
module

public import proofs.«01_k».proof.Proof.Loads

/-! What the body's transfers out of its scratch buffers carry: the twelve blocks of 512 columns of the first two results and the two rows
of the third. -/

@[expose] public section

set_option maxRecDepth 16384

noncomputable section

namespace Cert.KernelIdeal.Hand

open Cert.KernelIdeal Cert.KernelIdeal.Gen Cert.RouterMath
open Idealize.ShloMosaic Idealize.ShloMosaic.TcCoe

variable {F : FTy → Type} [FloatOps F]

theorem casts_slot : S1x2048x512.ShapeCasts S2048x512 := squeezes_S1x2048x512_S2048x512.numel_eq
theorem casts_row : S1x160x1024.ShapeCasts S160x1024 := squeezes_S1x160x1024_S160x1024.numel_eq

/-- A slice of a buffer, read through a squeeze after the slice was stored, holds what was stored, reshaped. -/
theorem squeeze_read {κ : Kind} {sp : Space} {s s' : Shape} {e : EltTy} {Val : EltTy → Type} (M : Memref sig κ sp s e) (r : Rect s)
    (hr : ∀ a, r.stride a = 1) (hq : r.shape.Squeezes s') (hc : r.shape.ShapeCasts s') (g : M.view.ty.Contents Val) (w : r.shape.Idx → Val e)
    (L : List (View.Piece Val s e)) :
    View.read Val ((M.slice r hr).squeeze s' hq).view (M.view.writes Val g (⟨r, w⟩ :: L)) = shapeCast s' w hc :=
  (Memref.read_squeeze_slice M r hr hq hc _).trans
    (congrArg (fun v => shapeCast s' v hc) (funext fun x => View.read_writes_cons_emb M.view g r w L x))

/-- A block of columns of the second result's staging buffer, read back after it was stored, holds what was stored. -/
theorem cols_read {c : Dev nD} (g6 : MBuf F c sc6) (r : Rect S160x6144) (hr : ∀ a, r.stride a = 1) (w : r.shape.Idx → Elt F .f32)
    (L : List (View.Piece (Elt F) S160x6144 .f32)) :
    View.read (Elt F) (sc6.slice r hr).view (sc6.view.writes (Elt F) g6 (⟨r, w⟩ :: L)) = w := by
  funext x
  exact View.read_writes_cons_emb sc6.view g6 r w L x

/-- The first result's block of 512 columns from column `j` on. -/
def dxBlock (dl : Vec F S2048x160 .bf16) (f2 : Vec F S160x6144 .bf16) (j : ℕ)
    (h : ∀ a, ![0, j] a + S160x512.size a ≤ S160x6144.size a := by decide) : FVec F S2048x512 .bf16 :=
  shapeCast S2048x512 (colDx dl (colW f2 j h)) casts_slot

/-- The second result's block of 512 columns from column `j` on. -/
def dwBlock (dls : Vec F S160x2048 .bf16) (f0 : Vec F S2048x6144 .fp8e4m3) (j : ℕ)
    (h : ∀ a, ![0, j] a + S2048x512.size a ≤ S2048x6144.size a := by decide) : FVec F S160x512 .f32 :=
  colDw dls (colX f0 j h)

section Body
variable (c : Dev nD) (f0 : MBuf F c hb0) (f1 : MBuf F c hb1) (f2 : MBuf F c hb2) (f3 : MBuf F c hb3) (f4 : MBuf F c hb4)
  (g1 : MBuf F c sc1) (g2 : MBuf F c sc2) (g3 : MBuf F c sc3) (g4 : MBuf F c sc4) (g5 : MBuf F c sc5) (g6 : MBuf F c sc6)

/-! ### The first result's transfers -/

theorem dx_0 : run0.sl.dma88 c f0 f1 f2 f3 f4 g1 g2 g3 g4 g5 = dxBlock (run0.sl.v517 c f0 f1 f2 f3 f4 g1 g2 g3 g4) f2 0 := by
  delta run0.sl.dma88 run0.sl.Hs5_1
  beta_reduce
  rw [copy_w]
  exact squeeze_read sc5 _ _ _ casts_slot g5 _ _

theorem dx_1 : run0.sl.dma96 c f0 f1 f2 f3 f4 g1 g2 g3 g4 g5 = dxBlock (run0.sl.v517 c f0 f1 f2 f3 f4 g1 g2 g3 g4) f2 512 := by
  delta run0.sl.dma96 run0.sl.Hs5_2
  beta_reduce
  rw [copy_w]
  exact squeeze_read sc5 _ _ _ casts_slot g5 _ _

theorem dx_2 : run0.sl.dma104 c f0 f1 f2 f3 f4 g1 g2 g3 g4 g5 = dxBlock (run0.sl.v517 c f0 f1 f2 f3 f4 g1 g2 g3 g4) f2 1024 := by
  delta run0.sl.dma104 run0.sl.Hs5_3 run0.sl.r_29
  beta_reduce
  rw [copy_w]
  exact squeeze_read sc5 _ _ _ casts_slot g5 _ _

theorem dx_3 : run0.sl.dma112 c f0 f1 f2 f3 f4 g1 g2 g3 g4 g5 = dxBlock (run0.sl.v517 c f0 f1 f2 f3 f4 g1 g2 g3 g4) f2 1536 := by
  delta run0.sl.dma112 run0.sl.Hs5_4
  beta_reduce
  rw [copy_w]
  exact squeeze_read sc5 _ _ _ casts_slot g5 _ _

theorem dx_4 : run0.sl.dma120 c f0 f1 f2 f3 f4 g1 g2 g3 g4 g5 = dxBlock (run0.sl.v517 c f0 f1 f2 f3 f4 g1 g2 g3 g4) f2 2048 := by
  delta run0.sl.dma120 run0.sl.Hs5_5
  beta_reduce
  rw [copy_w]
  exact squeeze_read sc5 _ _ _ casts_slot g5 _ _

theorem dx_5 : run0.sl.dma128 c f0 f1 f2 f3 f4 g1 g2 g3 g4 g5 = dxBlock (run0.sl.v517 c f0 f1 f2 f3 f4 g1 g2 g3 g4) f2 2560 := by
  delta run0.sl.dma128 run0.sl.Hs5_6
  beta_reduce
  rw [copy_w]
  exact squeeze_read sc5 _ _ _ casts_slot g5 _ _

theorem dx_6 : run0.sl.dma136 c f0 f1 f2 f3 f4 g1 g2 g3 g4 g5 = dxBlock (run0.sl.v517 c f0 f1 f2 f3 f4 g1 g2 g3 g4) f2 3072 := by
  delta run0.sl.dma136 run0.sl.Hs5_7
  beta_reduce
  rw [copy_w]
  exact squeeze_read sc5 _ _ _ casts_slot g5 _ _

theorem dx_7 : run0.sl.dma144 c f0 f1 f2 f3 f4 g1 g2 g3 g4 g5 = dxBlock (run0.sl.v517 c f0 f1 f2 f3 f4 g1 g2 g3 g4) f2 3584 := by
  delta run0.sl.dma144 run0.sl.Hs5_8
  beta_reduce
  rw [copy_w]
  exact squeeze_read sc5 _ _ _ casts_slot g5 _ _

theorem dx_8 : run0.sl.dma152 c f0 f1 f2 f3 f4 g1 g2 g3 g4 g5 = dxBlock (run0.sl.v517 c f0 f1 f2 f3 f4 g1 g2 g3 g4) f2 4096 := by
  delta run0.sl.dma152 run0.sl.Hs5_9
  beta_reduce
  rw [copy_w]
  exact squeeze_read sc5 _ _ _ casts_slot g5 _ _

theorem dx_9 : run0.sl.dma160 c f0 f1 f2 f3 f4 g1 g2 g3 g4 g5 = dxBlock (run0.sl.v517 c f0 f1 f2 f3 f4 g1 g2 g3 g4) f2 4608 := by
  delta run0.sl.dma160 run0.sl.Hs5_10
  beta_reduce
  rw [copy_w]
  exact squeeze_read sc5 _ _ _ casts_slot g5 _ _

theorem dx_10 : run0.sl.dma168 c f0 f1 f2 f3 f4 g1 g2 g3 g4 g5 = dxBlock (run0.sl.v517 c f0 f1 f2 f3 f4 g1 g2 g3 g4) f2 5120 := by
  delta run0.sl.dma168 run0.sl.Hs5_11
  beta_reduce
  rw [copy_w]
  exact squeeze_read sc5 _ _ _ casts_slot g5 _ _

theorem dx_11 : run0.sl.dma176 c f0 f1 f2 f3 f4 g1 g2 g3 g4 g5 = dxBlock (run0.sl.v517 c f0 f1 f2 f3 f4 g1 g2 g3 g4) f2 5632 := by
  delta run0.sl.dma176 run0.sl.Hs5_12
  beta_reduce
  rw [copy_w]
  exact squeeze_read sc5 _ _ _ casts_slot g5 _ _

/-! ### The second result's transfers -/

theorem dw_0 : run0.sl.dma92 c f0 f1 f2 f3 f4 g1 g2 g3 g4 g6 = dwBlock (run0.sl.v529 c f0 f1 f2 f3 f4 g1 g2 g3 g4) f0 0 := by
  delta run0.sl.dma92 run0.sl.Hs6_1 run0.sl.v530
  beta_reduce
  rw [load_x]
  exact cols_read g6 _ _ _ _

theorem dw_1 : run0.sl.dma100 c f0 f1 f2 f3 f4 g1 g2 g3 g4 g6 = dwBlock (run0.sl.v529 c f0 f1 f2 f3 f4 g1 g2 g3 g4) f0 512 := by
  delta run0.sl.dma100 run0.sl.Hs6_2 run0.sl.v552
  beta_reduce
  rw [load_x]
  exact cols_read g6 _ _ _ _

theorem dw_2 : run0.sl.dma108 c f0 f1 f2 f3 f4 g1 g2 g3 g4 g6 = dwBlock (run0.sl.v529 c f0 f1 f2 f3 f4 g1 g2 g3 g4) f0 1024 := by
  delta run0.sl.dma108 run0.sl.Hs6_3 run0.sl.v574
  beta_reduce
  rw [load_x]
  exact cols_read g6 _ _ _ _

theorem dw_3 : run0.sl.dma116 c f0 f1 f2 f3 f4 g1 g2 g3 g4 g6 = dwBlock (run0.sl.v529 c f0 f1 f2 f3 f4 g1 g2 g3 g4) f0 1536 := by
  delta run0.sl.dma116 run0.sl.Hs6_4 run0.sl.v601
  beta_reduce
  rw [load_x]
  exact cols_read g6 _ _ _ _

theorem dw_4 : run0.sl.dma124 c f0 f1 f2 f3 f4 g1 g2 g3 g4 g6 = dwBlock (run0.sl.v529 c f0 f1 f2 f3 f4 g1 g2 g3 g4) f0 2048 := by
  delta run0.sl.dma124 run0.sl.Hs6_5 run0.sl.v628
  beta_reduce
  rw [load_x]
  exact cols_read g6 _ _ _ _

theorem dw_5 : run0.sl.dma132 c f0 f1 f2 f3 f4 g1 g2 g3 g4 g6 = dwBlock (run0.sl.v529 c f0 f1 f2 f3 f4 g1 g2 g3 g4) f0 2560 := by
  delta run0.sl.dma132 run0.sl.Hs6_6 run0.sl.v655
  beta_reduce
  rw [load_x]
  exact cols_read g6 _ _ _ _

theorem dw_6 : run0.sl.dma140 c f0 f1 f2 f3 f4 g1 g2 g3 g4 g6 = dwBlock (run0.sl.v529 c f0 f1 f2 f3 f4 g1 g2 g3 g4) f0 3072 := by
  delta run0.sl.dma140 run0.sl.Hs6_7 run0.sl.v682
  beta_reduce
  rw [load_x]
  exact cols_read g6 _ _ _ _

theorem dw_7 : run0.sl.dma148 c f0 f1 f2 f3 f4 g1 g2 g3 g4 g6 = dwBlock (run0.sl.v529 c f0 f1 f2 f3 f4 g1 g2 g3 g4) f0 3584 := by
  delta run0.sl.dma148 run0.sl.Hs6_8 run0.sl.v709
  beta_reduce
  rw [load_x]
  exact cols_read g6 _ _ _ _

theorem dw_8 : run0.sl.dma156 c f0 f1 f2 f3 f4 g1 g2 g3 g4 g6 = dwBlock (run0.sl.v529 c f0 f1 f2 f3 f4 g1 g2 g3 g4) f0 4096 := by
  delta run0.sl.dma156 run0.sl.Hs6_9 run0.sl.v736
  beta_reduce
  rw [load_x]
  exact cols_read g6 _ _ _ _

theorem dw_9 : run0.sl.dma164 c f0 f1 f2 f3 f4 g1 g2 g3 g4 g6 = dwBlock (run0.sl.v529 c f0 f1 f2 f3 f4 g1 g2 g3 g4) f0 4608 := by
  delta run0.sl.dma164 run0.sl.Hs6_10 run0.sl.r_30 run0.sl.v763
  beta_reduce
  rw [load_x]
  exact cols_read g6 _ _ _ _

theorem dw_10 : run0.sl.dma172 c f0 f1 f2 f3 f4 g1 g2 g3 g4 g6 = dwBlock (run0.sl.v529 c f0 f1 f2 f3 f4 g1 g2 g3 g4) f0 5120 := by
  delta run0.sl.dma172 run0.sl.Hs6_11 run0.sl.v790
  beta_reduce
  rw [load_x]
  exact cols_read g6 _ _ _ _

theorem dw_11 : run0.sl.dma180 c f0 f1 f2 f3 f4 g1 g2 g3 g4 g6 = dwBlock (run0.sl.v529 c f0 f1 f2 f3 f4 g1 g2 g3 g4) f0 5632 := by
  delta run0.sl.dma180 run0.sl.Hs6_12 run0.sl.v817
  beta_reduce
  rw [load_x]
  exact cols_read g6 _ _ _ _

end Body

end Cert.KernelIdeal.Hand

end
-- ==== Proof.Grads.lean ====
module

public import proofs.«01_k».proof.Proof.Columns

/-! The gradient of the logits of each block of 512 tokens, at an index, over the extended reals: every block holds the gradients of its
own tokens. -/

@[expose] public section

set_option maxRecDepth 16384

noncomputable section

namespace Cert.KernelIdeal.Hand

open Cert.KernelIdeal Cert.KernelIdeal.Gen Cert.RouterMath
open Idealize.ShloMosaic Idealize.ShloMosaic.TcCoe

/-- Token `s` of row `b` in the flattened list of tokens. -/
def tok (b : Fin 2) (s : Fin 1024) : Fin 2048 := ⟨b.val * 1024 + s.val, by omega⟩

/-- Token `j` of the block that starts at token `o` of a row. -/
def seq (o : ℕ) (ho : o + 512 ≤ 1024) (j : Fin 512) : Fin 1024 := ⟨o + j.val, by omega⟩

section
variable (f0 : Vec Ideal S2048x6144 .fp8e4m3) (f1 : Vec Ideal S2x1024 .f32) (f2 : Vec Ideal S160x6144 .bf16) (f3 : Vec Ideal S6x2x1024 .i32)
  (f4 : Vec Ideal S6x2x1024 .bf16)

/-- The gradient of the logits of token `(b, s)` at expert `e`, from the kernel's five operands. -/
def DL (b : Fin 2) (s : Fin 1024) (e : Fin 160) : EReal :=
  dlogit (fun b s d => f0 (ix2 (tok b s) d)) (fun b s => f1 (ix2 b s)) (fun d e => f2 (ix2 e d)) (fun b s k => f3 (ix3 k b s))
    (fun b s k => f4 (ix3 k b s)) b s e

/-- A block holds its tokens' gradients, given that its operands are the blocks of the kernel's operands. -/
theorem block_at (b : Fin 2) (o : ℕ) (ho : o + 512 ≤ 1024) (S : Vec Ideal S1x512 .f32) (W : Vec Ideal S160x6144 .bf16)
    (X : Vec Ideal S512x6144 .fp8e4m3) (h : Fin 6 → FVec Ideal S160x512 .f32)
    (hS : ∀ j, S (ix2 0 j) = f1 (ix2 b (seq o ho j))) (hW : ∀ e d, W (ix2 e d) = f2 (ix2 e d))
    (hX : ∀ j d, X (ix2 j d) = f0 (ix2 (tok b (seq o ho j)) d))
    (hh : ∀ k e j, h k (ix2 e j) = Scalar.select (IntOp.cmpi .eq (f3 (ix3 k b (seq o ho j))) (BitVec.ofNat 32 ↑e)) (f4 (ix3 k b (seq o ho j))) (0 : EReal))
    (e : Fin 160) (j : Fin 512) : blockDl (blockP S W X) (blockDp h) (ix2 e j) = DL f0 f1 f2 f3 f4 b (seq o ho j) e := by
  rw [blockDl_at]
  simp only [blockP_at, blockDp_at, hS, hW, hX, hh]
  rfl

theorem tileS_at (b : Fin 2) (o : ℕ) (ho : o + 512 ≤ 1024) (h) (j : Fin 512) : tileS f1 b.val o h (ix2 0 j) = f1 (ix2 b (seq o ho j)) := by
  refine congrArg f1 (funext fun a => Fin.ext ?_)
  fin_cases a <;> simp [LoadRect.idx_apply, seq]

theorem tileW_at (e : Fin 160) (d : Fin 6144) : tileW f2 (ix2 e d) = f2 (ix2 e d) := by
  refine congrArg f2 (funext fun a => Fin.ext ?_)
  fin_cases a <;> simp [LoadRect.idx_apply]

theorem tileX_at (b : Fin 2) (o t : ℕ) (ho : o + 512 ≤ 1024) (ht : t = b.val * 1024 + o) (h) (j : Fin 512) (d : Fin 6144) :
    tileX f0 t h (ix2 j d) = f0 (ix2 (tok b (seq o ho j)) d) := by
  refine congrArg f0 (funext fun a => Fin.ext ?_)
  fin_cases a <;> simp [LoadRect.idx_apply, seq, tok, ht, Nat.add_assoc]

theorem tileI_at (k : Fin 6) (b : Fin 2) (o : ℕ) (ho : o + 512 ≤ 1024) (h) (j : Fin 512) :
    tileI f3 k.val b.val o h (ix3 0 0 j) = f3 (ix3 k b (seq o ho j)) := by
  refine congrArg f3 (funext fun a => Fin.ext ?_)
  fin_cases a <;> simp [LoadRect.idx_apply, seq]

theorem tileD_at (k : Fin 6) (b : Fin 2) (o : ℕ) (ho : o + 512 ≤ 1024) (h) (j : Fin 512) :
    tileD f4 k.val o h (ix3 0 b j) = f4 (ix3 k b (seq o ho j)) := by
  refine congrArg f4 (funext fun a => Fin.ext ?_)
  fin_cases a <;> simp [LoadRect.idx_apply, seq]

/-- A contribution of a block of the first row, from the operands. -/
theorem hit0_tile (k : Fin 6) (o : ℕ) (ho : o + 512 ≤ 1024) (h h') (e : Fin 160) (j : Fin 512) :
    hit0 (tileI f3 k.val 0 o h) (tileD f4 k.val o h') (ix2 e j)
      = Scalar.select (IntOp.cmpi .eq (f3 (ix3 k 0 (seq o ho j))) (BitVec.ofNat 32 ↑e)) (f4 (ix3 k 0 (seq o ho j))) (0 : EReal) := by
  rw [hit0_at, ← tileI_at f3 k 0 o ho h j, ← tileD_at f4 k 0 o ho h' j]
  rfl

/-- A contribution of a block of the second row, from the operands. -/
theorem hit1_tile (k : Fin 6) (o : ℕ) (ho : o + 512 ≤ 1024) (h h') (e : Fin 160) (j : Fin 512) :
    hit1 (tileI f3 k.val 1 o h) (tileD f4 k.val o h') (ix2 e j)
      = Scalar.select (IntOp.cmpi .eq (f3 (ix3 k 1 (seq o ho j))) (BitVec.ofNat 32 ↑e)) (f4 (ix3 k 1 (seq o ho j))) (0 : EReal) := by
  rw [hit1_at, ← tileI_at f3 k 1 o ho h j, ← tileD_at f4 k 1 o ho h' j]
  rfl

/-- The first block at an index. -/
theorem grad0_at (e : Fin 160) (j : Fin 512) :
    grad0 f0 f1 f2 f3 f4 (ix2 e j) = DL f0 f1 f2 f3 f4 0 (seq 0 (by decide) j) e := by
  refine block_at f0 f1 f2 f3 f4 0 0 (by decide) _ _ _ _ (tileS_at f1 0 0 _ _) (tileW_at f2) (tileX_at f0 0 0 0 _ rfl _) (fun k e j => ?_) e j
  fin_cases k
  exacts [hit0_tile f3 f4 0 0 _ _ _ e j, hit0_tile f3 f4 1 0 _ _ _ e j, hit0_tile f3 f4 2 0 _ _ _ e j, hit0_tile f3 f4 3 0 _ _ _ e j,
    hit0_tile f3 f4 4 0 _ _ _ e j, hit0_tile f3 f4 5 0 _ _ _ e j]

/-- The second block at an index. -/
theorem grad1_at (e : Fin 160) (j : Fin 512) :
    grad1 f0 f1 f2 f3 f4 (ix2 e j) = DL f0 f1 f2 f3 f4 0 (seq 512 (by decide) j) e := by
  refine block_at f0 f1 f2 f3 f4 0 512 (by decide) _ _ _ _ (tileS_at f1 0 512 _ _) (tileW_at f2) (tileX_at f0 0 512 512 _ rfl _)
    (fun k e j => ?_) e j
  fin_cases k
  exacts [hit0_tile f3 f4 0 512 _ _ _ e j, hit0_tile f3 f4 1 512 _ _ _ e j, hit0_tile f3 f4 2 512 _ _ _ e j,
    hit0_tile f3 f4 3 512 _ _ _ e j, hit0_tile f3 f4 4 512 _ _ _ e j, hit0_tile f3 f4 5 512 _ _ _ e j]

/-- The third block at an index. -/
theorem grad2_at (e : Fin 160) (j : Fin 512) :
    grad2 f0 f1 f2 f3 f4 (ix2 e j) = DL f0 f1 f2 f3 f4 1 (seq 0 (by decide) j) e := by
  refine block_at f0 f1 f2 f3 f4 1 0 (by decide) _ _ _ _ (tileS_at f1 1 0 _ _) (tileW_at f2) (tileX_at f0 1 0 1024 _ rfl _)
    (fun k e j => ?_) e j
  fin_cases k
  exacts [hit1_tile f3 f4 0 0 _ _ _ e j, hit1_tile f3 f4 1 0 _ _ _ e j, hit1_tile f3 f4 2 0 _ _ _ e j, hit1_tile f3 f4 3 0 _ _ _ e j,
    hit1_tile f3 f4 4 0 _ _ _ e j, hit1_tile f3 f4 5 0 _ _ _ e j]

/-- The fourth block at an index. -/
theorem grad3_at (e : Fin 160) (j : Fin 512) :
    grad3 f0 f1 f2 f3 f4 (ix2 e j) = DL f0 f1 f2 f3 f4 1 (seq 512 (by decide) j) e := by
  refine block_at f0 f1 f2 f3 f4 1 512 (by decide) _ _ _ _ (tileS_at f1 1 512 _ _) (tileW_at f2) (tileX_at f0 1 512 1536 _ rfl _)
    (fun k e j => ?_) e j
  fin_cases k
  exacts [hit1_tile f3 f4 0 512 _ _ _ e j, hit1_tile f3 f4 1 512 _ _ _ e j, hit1_tile f3 f4 2 512 _ _ _ e j,
    hit1_tile f3 f4 3 512 _ _ _ e j, hit1_tile f3 f4 4 512 _ _ _ e j, hit1_tile f3 f4 5 512 _ _ _ e j]

end

end Cert.KernelIdeal.Hand

end
-- ==== Proof.Arrays.lean ====
module

public import proofs.«01_k».proof.Proof.Grads
public import Idealize.ShloMosaic.Lib.ValueLayout

/-! What the kernel's arrays hold over the extended reals: the gradient of the logits as its two products read it, and the three results
at an index. -/

@[expose] public section

set_option maxRecDepth 16384

noncomputable section

namespace Cert.KernelIdeal.Hand

open Cert.KernelIdeal Cert.KernelIdeal.Gen Cert.RouterMath
open Idealize.ShloMosaic Idealize.ShloMosaic.TcCoe

/-- An index of a matrix is its two coordinates. -/
theorem eta2 {a b : ℕ} (x : (⟨2, ![a, b]⟩ : Shape).Idx) : x = ix2 (x 0) (x 1) := by
  funext i
  fin_cases i <;> rfl

/-- An index of a three-axis array is its three coordinates. -/
theorem eta3 {a b c : ℕ} (x : (⟨3, ![a, b, c]⟩ : Shape).Idx) : x = ix3 (x 0) (x 1) (x 2) := by
  funext i
  fin_cases i <;> rfl

theorem blockFlip_idx (dl : FVec Ideal S160x512 .f32) (x : S512x160.Idx) : blockFlip dl x = dl (ix2 (x 1) (x 0)) :=
  (congrArg (blockFlip dl) (eta2 x)).trans (blockFlip_at dl (x 1) (x 0))

theorem blockScaled_idx (s : Vec Ideal S1x512 .f32) (dl : FVec Ideal S160x512 .f32) (x : S160x512.Idx) :
    blockScaled s dl x = dl (ix2 (x 0) (x 1)) * s (ix2 0 (x 1)) :=
  (congrArg (blockScaled s dl) (eta2 x)).trans (blockScaled_at s dl (x 0) (x 1))

theorem blockOut_idx (dl : FVec Ideal S160x512 .f32) (x : S1x160x512.Idx) : blockOut dl x = dl (ix2 (x 1) (x 2)) :=
  (congrArg (blockOut dl) (eta3 x)).trans (blockOut_at dl (x 0) (x 1) (x 2))

section
variable (f0 : Vec Ideal S2048x6144 .fp8e4m3) (f1 : Vec Ideal S2x1024 .f32) (f2 : Vec Ideal S160x6144 .bf16) (f3 : Vec Ideal S6x2x1024 .i32)
  (f4 : Vec Ideal S6x2x1024 .bf16)

/-- The row of flattened token `t`. -/
def rowOf (t : Fin 2048) : Fin 2 := ⟨t.val / 1024, by omega⟩
/-- The place of flattened token `t` in its row. -/
def seqOf (t : Fin 2048) : Fin 1024 := ⟨t.val % 1024, by omega⟩

/-- The gradient of the logits of flattened token `t` at expert `e`. -/
def DT (t : Fin 2048) (e : Fin 160) : EReal := DL f0 f1 f2 f3 f4 (rowOf t) (seqOf t) e

/-- The scale of flattened token `t`. -/
def scaleT (t : Fin 2048) : EReal := f1 (ix2 (rowOf t) (seqOf t))

theorem rowOf_eq (t : Fin 2048) (b : Fin 2) (s : Fin 1024) (h : t.val = b.val * 1024 + s.val) : rowOf t = b :=
  Fin.ext (by show t.val / 1024 = b.val; omega)

theorem seqOf_eq (t : Fin 2048) (b : Fin 2) (s : Fin 1024) (h : t.val = b.val * 1024 + s.val) : seqOf t = s :=
  Fin.ext (by show t.val % 1024 = s.val; omega)

theorem DT_eq (t : Fin 2048) (b : Fin 2) (s : Fin 1024) (h : t.val = b.val * 1024 + s.val) (e : Fin 160) :
    DT f0 f1 f2 f3 f4 t e = DL f0 f1 f2 f3 f4 b s e := by
  unfold DT
  rw [rowOf_eq t b s h, seqOf_eq t b s h]

theorem scaleT_eq (t : Fin 2048) (b : Fin 2) (s : Fin 1024) (h : t.val = b.val * 1024 + s.val) : scaleT f1 t = f1 (ix2 b s) := by
  unfold scaleT
  rw [rowOf_eq t b s h, seqOf_eq t b s h]

/-- The first result at token `t` and feature `d`. -/
def dxAt (t : Fin 2048) (d : Fin 6144) : EReal := ∑ e, DT f0 f1 f2 f3 f4 t e * f2 (ix2 e d)

/-- The second result at expert `e` and feature `d`. -/
def dwAt (e : Fin 160) (d : Fin 6144) : EReal := ∑ t, DT f0 f1 f2 f3 f4 t e * scaleT f1 t * f0 (ix2 t d)

end

section Body
variable (c : Dev nD) (f0 : MBuf Ideal c hb0) (f1 : MBuf Ideal c hb1) (f2 : MBuf Ideal c hb2) (f3 : MBuf Ideal c hb3) (f4 : MBuf Ideal c hb4)
  (f5 : MBuf Ideal c hb5) (f6 : MBuf Ideal c hb6) (f7 : MBuf Ideal c hb7)
  (g0 : MBuf Ideal c sc0) (g1 : MBuf Ideal c sc1) (g2 : MBuf Ideal c sc2) (g3 : MBuf Ideal c sc3) (g4 : MBuf Ideal c sc4)
  (g5 : MBuf Ideal c sc5) (g6 : MBuf Ideal c sc6) (g7 : MBuf Ideal c sc7) (g8 : MBuf Ideal c sc8) (g9 : MBuf Ideal c sc9)

/-- What the first product reads: the gradient of the logits, tokens first. -/
theorem flips_eq : run0.sl.v517 c f0 f1 f2 f3 f4 g1 g2 g3 g4 = fun y : S2048x160.Idx => DT f0 f1 f2 f3 f4 (y 0) (y 1) := by
  funext y
  delta run0.sl.v517
  beta_reduce
  rw [body_flips]
  show View.readAt (Elt Ideal) sc8.view _ _ y = _
  rw [View.readAt_apply]
  refine (View.read_writes_apply_of_pieces sc8.view _ (fun y : S2048x160.Idx => DT f0 f1 f2 f3 f4 (y 0) (y 1)) _ ?_ _
    (View.cover_of_tiled (s := S2048x160) _ S512x160.size rfl _)).trans ?_
  · intro p hp x
    simp only [List.mem_cons, List.not_mem_nil, or_false] at hp
    rcases hp with rfl | rfl | rfl | rfl
    · exact (blockFlip_idx _ x).trans ((grad3_at f0 f1 f2 f3 f4 (x 1) (x 0)).trans
        (DT_eq f0 f1 f2 f3 f4 _ 1 (seq 512 (by decide) (x 0)) (by show 1536 + 1 * (x 0).val = 1 * 1024 + (512 + (x 0).val); omega) _).symm |>.trans
          (congrArg (DT f0 f1 f2 f3 f4 _) (Fin.ext (by show (x 1).val = 0 + 1 * (x 1).val; omega))))
    · exact (blockFlip_idx _ x).trans ((grad2_at f0 f1 f2 f3 f4 (x 1) (x 0)).trans
        (DT_eq f0 f1 f2 f3 f4 _ 1 (seq 0 (by decide) (x 0)) (by show 1024 + 1 * (x 0).val = 1 * 1024 + (0 + (x 0).val); omega) _).symm |>.trans
          (congrArg (DT f0 f1 f2 f3 f4 _) (Fin.ext (by show (x 1).val = 0 + 1 * (x 1).val; omega))))
    · exact (blockFlip_idx _ x).trans ((grad1_at f0 f1 f2 f3 f4 (x 1) (x 0)).trans
        (DT_eq f0 f1 f2 f3 f4 _ 0 (seq 512 (by decide) (x 0)) (by show 512 + 1 * (x 0).val = 0 * 1024 + (512 + (x 0).val); omega) _).symm |>.trans
          (congrArg (DT f0 f1 f2 f3 f4 _) (Fin.ext (by show (x 1).val = 0 + 1 * (x 1).val; omega))))
    · exact (blockFlip_idx _ x).trans ((grad0_at f0 f1 f2 f3 f4 (x 1) (x 0)).trans
        (DT_eq f0 f1 f2 f3 f4 _ 0 (seq 0 (by decide) (x 0)) (by show 0 + 1 * (x 0).val = 0 * 1024 + (0 + (x 0).val); omega) _).symm |>.trans
          (congrArg (DT f0 f1 f2 f3 f4 _) (Fin.ext (by show (x 1).val = 0 + 1 * (x 1).val; omega))))
  · exact congrArg₂ (DT f0 f1 f2 f3 f4) (Fin.ext (by show 0 + 1 * (y 0).val = (y 0).val; omega))
      (Fin.ext (by show 0 + 1 * (y 1).val = (y 1).val; omega))

end Body

end Cert.KernelIdeal.Hand

end
-- ==== Proof.Results.lean ====
module

public import proofs.«01_k».proof.Proof.Arrays

/-! What the kernel's body leaves in its three results over the extended reals, whatever they and the scratch buffers held before. -/

@[expose] public section

set_option maxRecDepth 16384

noncomputable section

namespace Cert.KernelIdeal.Hand

open Cert.KernelIdeal Cert.KernelIdeal.Gen Cert.RouterMath
open Idealize.ShloMosaic Idealize.ShloMosaic.TcCoe

section
variable (f0 : Vec Ideal S2048x6144 .fp8e4m3) (f1 : Vec Ideal S2x1024 .f32) (f2 : Vec Ideal S160x6144 .bf16) (f3 : Vec Ideal S6x2x1024 .i32)
  (f4 : Vec Ideal S6x2x1024 .bf16)

/-- The third result's array of gradients: rows of tokens, then experts, then tokens. -/
abbrev outArr : S2x160x1024.Idx → EReal := fun y => DL f0 f1 f2 f3 f4 (y 0) (y 2) (y 1)

/-- An index `(i, j)` behind a dropped axis of one is `(0, i, j)`. -/
theorem undrop {a b : ℕ} (h : (⟨2, ![a, b]⟩ : Shape).numel = (⟨3, ![1, a, b]⟩ : Shape).numel) (i : Fin a) (j : Fin b) :
    Shape.reshapeEquiv h (ix2 i j) = ix3 (0 : Fin 1) i j :=
  Shape.reshapeEquiv_eq_of_rowMajor h (by
    rw [Shape.rowMajor_val_three, Shape.rowMajor_val_two]
    show ((0 * a + i.val) * b + j.val) = i.val * b + j.val
    simp only [Nat.zero_mul, Nat.zero_add])

theorem scaled_at (b : Fin 2) (o : ℕ) (ho : o + 512 ≤ 1024) (gr : FVec Ideal S160x512 .f32)
    (hgr : ∀ e j, gr (ix2 e j) = DL f0 f1 f2 f3 f4 b (seq o ho j) e) (h) (e : Fin 160) (j : Fin 512) (t : Fin 2048)
    (ht : t.val = b.val * 1024 + (o + j.val)) :
    blockScaled (tileS f1 b.val o h) gr (ix2 e j) = DT f0 f1 f2 f3 f4 t e * scaleT f1 t := by
  rw [blockScaled_at, hgr, tileS_at f1 b o ho, DT_eq f0 f1 f2 f3 f4 t b (seq o ho j) ht, scaleT_eq f1 t b (seq o ho j) ht]

/-- A block of the scaled gradient holds its tokens' gradients times their scales. -/
theorem scaled_piece (b : Fin 2) (o : ℕ) (ho : o + 512 ≤ 1024) (gr : FVec Ideal S160x512 .f32)
    (hgr : ∀ e j, gr (ix2 e j) = DL f0 f1 f2 f3 f4 b (seq o ho j) e) (h) (x : S160x512.Idx) (t : Fin 2048) (e : Fin 160)
    (ht : t.val = b.val * 1024 + (o + (x 1).val)) (he : e.val = (x 0).val) :
    blockScaled (tileS f1 b.val o h) gr x = DT f0 f1 f2 f3 f4 t e * scaleT f1 t :=
  (congrArg (blockScaled (tileS f1 b.val o h) gr) (eta2 x)).trans ((scaled_at f0 f1 f2 f3 f4 b o ho gr hgr h (x 0) (x 1) t ht).trans
    (congrArg (fun e => DT f0 f1 f2 f3 f4 t e * scaleT f1 t) (Fin.ext he.symm)))

/-- A block of the third result holds its tokens' gradients. -/
theorem out_piece (b : Fin 2) (o : ℕ) (ho : o + 512 ≤ 1024) (gr : FVec Ideal S160x512 .f32)
    (hgr : ∀ e j, gr (ix2 e j) = DL f0 f1 f2 f3 f4 b (seq o ho j) e) (x : S1x160x512.Idx) (b' : Fin 2) (s : Fin 1024) (e : Fin 160)
    (hb : b'.val = b.val) (hs : s.val = o + (x 2).val) (he : e.val = (x 1).val) :
    blockOut gr x = DL f0 f1 f2 f3 f4 b' s e := by
  refine (blockOut_idx gr x).trans ((hgr (x 1) (x 2)).trans ?_)
  rw [show b' = b from Fin.ext hb, show e = x 1 from Fin.ext he, show s = seq o ho (x 2) from Fin.ext hs]

theorem dxBlock_at (dl : Vec Ideal S2048x160 .bf16) (j : ℕ) (h) (t : Fin 2048) (k : Fin 512) (d : Fin 6144) (hd : d.val = j + k.val) :
    dxBlock dl f2 j h (ix2 t k) = ∑ e, dl (ix2 t e) * f2 (ix2 e d) := by
  refine (congrArg (colDx dl (colW f2 j h)) (undrop casts_slot t k)).trans ((colDx_at dl _ 0 t k).trans ?_)
  refine Finset.sum_congr rfl fun e _ => congrArg (dl (ix2 t e) * ·) (congrArg f2 (funext fun a => Fin.ext ?_))
  fin_cases a
  · simp [LoadRect.idx_apply]
  · simp [LoadRect.idx_apply, hd]

theorem dwBlock_at (dls : Vec Ideal S160x2048 .bf16) (j : ℕ) (h) (e : Fin 160) (k : Fin 512) (d : Fin 6144) (hd : d.val = j + k.val) :
    dwBlock dls f0 j h (ix2 e k) = ∑ t, dls (ix2 e t) * f0 (ix2 t d) := by
  refine (colDw_at dls (colX f0 j h) e k).trans ?_
  refine Finset.sum_congr rfl fun t _ => congrArg (dls (ix2 e t) * ·) (congrArg f0 (funext fun a => Fin.ext ?_))
  fin_cases a
  · simp [LoadRect.idx_apply]
  · simp [LoadRect.idx_apply, hd]

/-- A block of columns of the first result holds those columns. -/
theorem dx_piece (dl : Vec Ideal S2048x160 .bf16) (hdl : dl = fun y : S2048x160.Idx => DT f0 f1 f2 f3 f4 (y 0) (y 1)) (j : ℕ) (h)
    (x : S2048x512.Idx) (t : Fin 2048) (d : Fin 6144) (ht : t.val = (x 0).val) (hd : d.val = j + (x 1).val) :
    dxBlock dl f2 j h x = dxAt f0 f1 f2 f3 f4 t d := by
  subst hdl
  refine (congrArg (dxBlock _ f2 j h) (eta2 x)).trans ((dxBlock_at f2 _ j h (x 0) (x 1) d hd).trans ?_)
  exact Finset.sum_congr rfl fun e _ => congrArg (fun t => DT f0 f1 f2 f3 f4 t e * f2 (ix2 e d)) (Fin.ext ht.symm)

/-- A block of columns of the second result holds those columns. -/
theorem dw_piece (dls : Vec Ideal S160x2048 .bf16) (hdl : dls = fun y : S160x2048.Idx => DT f0 f1 f2 f3 f4 (y 1) (y 0) * scaleT f1 (y 1)) (j : ℕ) (h)
    (x : S160x512.Idx) (e : Fin 160) (d : Fin 6144) (he : e.val = (x 0).val) (hd : d.val = j + (x 1).val) :
    dwBlock dls f0 j h x = dwAt f0 f1 f2 f3 f4 e d := by
  subst hdl
  refine (congrArg (dwBlock _ f0 j h) (eta2 x)).trans ((dwBlock_at f0 _ j h (x 0) (x 1) d hd).trans ?_)
  exact Finset.sum_congr rfl fun t _ => congrArg (fun e => DT f0 f1 f2 f3 f4 t e * scaleT f1 t * f0 (ix2 t d)) (Fin.ext he.symm)

/-- Twelve blocks of 512 columns, each holding its columns of `G`, fill the first result with `G`. -/
theorem dx_cols (v : View sig .tc .hbm S2048x6144 .bf16) (f : v.ty.Contents (Elt Ideal)) (G : Fin 2048 → Fin 6144 → EReal) (w0 w1 w2 w3 w4 w5 w6 w7 w8 w9 w10 w11 : FVec Ideal S2048x512 .bf16)
    (h0 : ∀ (x : S2048x512.Idx) (t : Fin 2048) (d : Fin 6144), t.val = (x 0).val → d.val = 0 + (x 1).val → w0 x = G t d)
    (h1 : ∀ (x : S2048x512.Idx) (t : Fin 2048) (d : Fin 6144), t.val = (x 0).val → d.val = 512 + (x 1).val → w1 x = G t d)
    (h2 : ∀ (x : S2048x512.Idx) (t : Fin 2048) (d : Fin 6144), t.val = (x 0).val → d.val = 1024 + (x 1).val → w2 x = G t d)
    (h3 : ∀ (x : S2048x512.Idx) (t : Fin 2048) (d : Fin 6144), t.val = (x 0).val → d.val = 1536 + (x 1).val → w3 x = G t d)
    (h4 : ∀ (x : S2048x512.Idx) (t : Fin 2048) (d : Fin 6144), t.val = (x 0).val → d.val = 2048 + (x 1).val → w4 x = G t d)
    (h5 : ∀ (x : S2048x512.Idx) (t : Fin 2048) (d : Fin 6144), t.val = (x 0).val → d.val = 2560 + (x 1).val → w5 x = G t d)
    (h6 : ∀ (x : S2048x512.Idx) (t : Fin 2048) (d : Fin 6144), t.val = (x 0).val → d.val = 3072 + (x 1).val → w6 x = G t d)
    (h7 : ∀ (x : S2048x512.Idx) (t : Fin 2048) (d : Fin 6144), t.val = (x 0).val → d.val = 3584 + (x 1).val → w7 x = G t d)
    (h8 : ∀ (x : S2048x512.Idx) (t : Fin 2048) (d : Fin 6144), t.val = (x 0).val → d.val = 4096 + (x 1).val → w8 x = G t d)
    (h9 : ∀ (x : S2048x512.Idx) (t : Fin 2048) (d : Fin 6144), t.val = (x 0).val → d.val = 4608 + (x 1).val → w9 x = G t d)
    (h10 : ∀ (x : S2048x512.Idx) (t : Fin 2048) (d : Fin 6144), t.val = (x 0).val → d.val = 5120 + (x 1).val → w10 x = G t d)
    (h11 : ∀ (x : S2048x512.Idx) (t : Fin 2048) (d : Fin 6144), t.val = (x 0).val → d.val = 5632 + (x 1).val → w11 x = G t d)
    : v.read (Elt Ideal) (v.writes (Elt Ideal) f
      [⟨Rect.unit (s := S2048x6144) ![0, 5632] ![2048, 512] inb_S2048x6144_S2048x512_0_5632, w11⟩,
      ⟨Rect.unit (s := S2048x6144) ![0, 5120] ![2048, 512] inb_S2048x6144_S2048x512_0_5120, w10⟩,
      ⟨Rect.unit (s := S2048x6144) ![0, 4608] ![2048, 512] inb_S2048x6144_S2048x512_0_4608, w9⟩,
      ⟨Rect.unit (s := S2048x6144) ![0, 4096] ![2048, 512] inb_S2048x6144_S2048x512_0_4096, w8⟩,
      ⟨Rect.unit (s := S2048x6144) ![0, 3584] ![2048, 512] inb_S2048x6144_S2048x512_0_3584, w7⟩,
      ⟨Rect.unit (s := S2048x6144) ![0, 3072] ![2048, 512] inb_S2048x6144_S2048x512_0_3072, w6⟩,
      ⟨Rect.unit (s := S2048x6144) ![0, 2560] ![2048, 512] inb_S2048x6144_S2048x512_0_2560, w5⟩,
      ⟨Rect.unit (s := S2048x6144) ![0, 2048] ![2048, 512] inb_S2048x6144_S2048x512_0_2048, w4⟩,
      ⟨Rect.unit (s := S2048x6144) ![0, 1536] ![2048, 512] inb_S2048x6144_S2048x512_0_1536, w3⟩,
      ⟨Rect.unit (s := S2048x6144) ![0, 1024] ![2048, 512] inb_S2048x6144_S2048x512_0_1024, w2⟩,
      ⟨Rect.unit (s := S2048x6144) ![0, 512] ![2048, 512] inb_S2048x6144_S2048x512_0_512, w1⟩,
      ⟨Rect.unit (s := S2048x6144) ![0, 0] ![2048, 512] inb_S2048x6144_S2048x512_0_0, w0⟩]) = fun y : S2048x6144.Idx => G (y 0) (y 1) := by
  funext y
  refine View.read_writes_apply_of_pieces v f (fun y : S2048x6144.Idx => G (y 0) (y 1)) _ ?_ y
    (View.cover_of_tiled (s := S2048x6144) _ S2048x512.size rfl y)
  intro p hp x
  simp only [List.mem_cons, List.not_mem_nil, or_false] at hp
  rcases hp with rfl | rfl | rfl | rfl | rfl | rfl | rfl | rfl | rfl | rfl | rfl | rfl
  · exact h11 x _ _ (by show 0 + 1 * (x 0).val = (x 0).val; omega) (by show 5632 + 1 * (x 1).val = 5632 + (x 1).val; omega)
  · exact h10 x _ _ (by show 0 + 1 * (x 0).val = (x 0).val; omega) (by show 5120 + 1 * (x 1).val = 5120 + (x 1).val; omega)
  · exact h9 x _ _ (by show 0 + 1 * (x 0).val = (x 0).val; omega) (by show 4608 + 1 * (x 1).val = 4608 + (x 1).val; omega)
  · exact h8 x _ _ (by show 0 + 1 * (x 0).val = (x 0).val; omega) (by show 4096 + 1 * (x 1).val = 4096 + (x 1).val; omega)
  · exact h7 x _ _ (by show 0 + 1 * (x 0).val = (x 0).val; omega) (by show 3584 + 1 * (x 1).val = 3584 + (x 1).val; omega)
  · exact h6 x _ _ (by show 0 + 1 * (x 0).val = (x 0).val; omega) (by show 3072 + 1 * (x 1).val = 3072 + (x 1).val; omega)
  · exact h5 x _ _ (by show 0 + 1 * (x 0).val = (x 0).val; omega) (by show 2560 + 1 * (x 1).val = 2560 + (x 1).val; omega)
  · exact h4 x _ _ (by show 0 + 1 * (x 0).val = (x 0).val; omega) (by show 2048 + 1 * (x 1).val = 2048 + (x 1).val; omega)
  · exact h3 x _ _ (by show 0 + 1 * (x 0).val = (x 0).val; omega) (by show 1536 + 1 * (x 1).val = 1536 + (x 1).val; omega)
  · exact h2 x _ _ (by show 0 + 1 * (x 0).val = (x 0).val; omega) (by show 1024 + 1 * (x 1).val = 1024 + (x 1).val; omega)
  · exact h1 x _ _ (by show 0 + 1 * (x 0).val = (x 0).val; omega) (by show 512 + 1 * (x 1).val = 512 + (x 1).val; omega)
  · exact h0 x _ _ (by show 0 + 1 * (x 0).val = (x 0).val; omega) (by show 0 + 1 * (x 1).val = 0 + (x 1).val; omega)

/-- Twelve blocks of 512 columns, each holding its columns of `G`, fill the second result with `G`. -/
theorem dw_cols (v : View sig .tc .hbm S160x6144 .f32) (f : v.ty.Contents (Elt Ideal)) (G : Fin 160 → Fin 6144 → EReal) (w0 w1 w2 w3 w4 w5 w6 w7 w8 w9 w10 w11 : FVec Ideal S160x512 .f32)
    (h0 : ∀ (x : S160x512.Idx) (t : Fin 160) (d : Fin 6144), t.val = (x 0).val → d.val = 0 + (x 1).val → w0 x = G t d)
    (h1 : ∀ (x : S160x512.Idx) (t : Fin 160) (d : Fin 6144), t.val = (x 0).val → d.val = 512 + (x 1).val → w1 x = G t d)
    (h2 : ∀ (x : S160x512.Idx) (t : Fin 160) (d : Fin 6144), t.val = (x 0).val → d.val = 1024 + (x 1).val → w2 x = G t d)
    (h3 : ∀ (x : S160x512.Idx) (t : Fin 160) (d : Fin 6144), t.val = (x 0).val → d.val = 1536 + (x 1).val → w3 x = G t d)
    (h4 : ∀ (x : S160x512.Idx) (t : Fin 160) (d : Fin 6144), t.val = (x 0).val → d.val = 2048 + (x 1).val → w4 x = G t d)
    (h5 : ∀ (x : S160x512.Idx) (t : Fin 160) (d : Fin 6144), t.val = (x 0).val → d.val = 2560 + (x 1).val → w5 x = G t d)
    (h6 : ∀ (x : S160x512.Idx) (t : Fin 160) (d : Fin 6144), t.val = (x 0).val → d.val = 3072 + (x 1).val → w6 x = G t d)
    (h7 : ∀ (x : S160x512.Idx) (t : Fin 160) (d : Fin 6144), t.val = (x 0).val → d.val = 3584 + (x 1).val → w7 x = G t d)
    (h8 : ∀ (x : S160x512.Idx) (t : Fin 160) (d : Fin 6144), t.val = (x 0).val → d.val = 4096 + (x 1).val → w8 x = G t d)
    (h9 : ∀ (x : S160x512.Idx) (t : Fin 160) (d : Fin 6144), t.val = (x 0).val → d.val = 4608 + (x 1).val → w9 x = G t d)
    (h10 : ∀ (x : S160x512.Idx) (t : Fin 160) (d : Fin 6144), t.val = (x 0).val → d.val = 5120 + (x 1).val → w10 x = G t d)
    (h11 : ∀ (x : S160x512.Idx) (t : Fin 160) (d : Fin 6144), t.val = (x 0).val → d.val = 5632 + (x 1).val → w11 x = G t d)
    : v.read (Elt Ideal) (v.writes (Elt Ideal) f
      [⟨Rect.unit (s := S160x6144) ![0, 5632] ![160, 512] inb_S160x6144_S160x512_0_5632, w11⟩,
      ⟨Rect.unit (s := S160x6144) ![0, 5120] ![160, 512] inb_S160x6144_S160x512_0_5120, w10⟩,
      ⟨Rect.unit (s := S160x6144) ![0, 4608] ![160, 512] inb_S160x6144_S160x512_0_4608, w9⟩,
      ⟨Rect.unit (s := S160x6144) ![0, 4096] ![160, 512] inb_S160x6144_S160x512_0_4096, w8⟩,
      ⟨Rect.unit (s := S160x6144) ![0, 3584] ![160, 512] inb_S160x6144_S160x512_0_3584, w7⟩,
      ⟨Rect.unit (s := S160x6144) ![0, 3072] ![160, 512] inb_S160x6144_S160x512_0_3072, w6⟩,
      ⟨Rect.unit (s := S160x6144) ![0, 2560] ![160, 512] inb_S160x6144_S160x512_0_2560, w5⟩,
      ⟨Rect.unit (s := S160x6144) ![0, 2048] ![160, 512] inb_S160x6144_S160x512_0_2048, w4⟩,
      ⟨Rect.unit (s := S160x6144) ![0, 1536] ![160, 512] inb_S160x6144_S160x512_0_1536, w3⟩,
      ⟨Rect.unit (s := S160x6144) ![0, 1024] ![160, 512] inb_S160x6144_S160x512_0_1024, w2⟩,
      ⟨Rect.unit (s := S160x6144) ![0, 512] ![160, 512] inb_S160x6144_S160x512_0_512, w1⟩,
      ⟨Rect.unit (s := S160x6144) ![0, 0] ![160, 512] inb_S160x6144_S160x512_0_0, w0⟩]) = fun y : S160x6144.Idx => G (y 0) (y 1) := by
  funext y
  refine View.read_writes_apply_of_pieces v f (fun y : S160x6144.Idx => G (y 0) (y 1)) _ ?_ y
    (View.cover_of_tiled (s := S160x6144) _ S160x512.size rfl y)
  intro p hp x
  simp only [List.mem_cons, List.not_mem_nil, or_false] at hp
  rcases hp with rfl | rfl | rfl | rfl | rfl | rfl | rfl | rfl | rfl | rfl | rfl | rfl
  · exact h11 x _ _ (by show 0 + 1 * (x 0).val = (x 0).val; omega) (by show 5632 + 1 * (x 1).val = 5632 + (x 1).val; omega)
  · exact h10 x _ _ (by show 0 + 1 * (x 0).val = (x 0).val; omega) (by show 5120 + 1 * (x 1).val = 5120 + (x 1).val; omega)
  · exact h9 x _ _ (by show 0 + 1 * (x 0).val = (x 0).val; omega) (by show 4608 + 1 * (x 1).val = 4608 + (x 1).val; omega)
  · exact h8 x _ _ (by show 0 + 1 * (x 0).val = (x 0).val; omega) (by show 4096 + 1 * (x 1).val = 4096 + (x 1).val; omega)
  · exact h7 x _ _ (by show 0 + 1 * (x 0).val = (x 0).val; omega) (by show 3584 + 1 * (x 1).val = 3584 + (x 1).val; omega)
  · exact h6 x _ _ (by show 0 + 1 * (x 0).val = (x 0).val; omega) (by show 3072 + 1 * (x 1).val = 3072 + (x 1).val; omega)
  · exact h5 x _ _ (by show 0 + 1 * (x 0).val = (x 0).val; omega) (by show 2560 + 1 * (x 1).val = 2560 + (x 1).val; omega)
  · exact h4 x _ _ (by show 0 + 1 * (x 0).val = (x 0).val; omega) (by show 2048 + 1 * (x 1).val = 2048 + (x 1).val; omega)
  · exact h3 x _ _ (by show 0 + 1 * (x 0).val = (x 0).val; omega) (by show 1536 + 1 * (x 1).val = 1536 + (x 1).val; omega)
  · exact h2 x _ _ (by show 0 + 1 * (x 0).val = (x 0).val; omega) (by show 1024 + 1 * (x 1).val = 1024 + (x 1).val; omega)
  · exact h1 x _ _ (by show 0 + 1 * (x 0).val = (x 0).val; omega) (by show 512 + 1 * (x 1).val = 512 + (x 1).val; omega)
  · exact h0 x _ _ (by show 0 + 1 * (x 0).val = (x 0).val; omega) (by show 0 + 1 * (x 1).val = 0 + (x 1).val; omega)

/-- Two rows, each holding its row of `G`, fill the third result with `G`. -/
theorem rows_fill (v : View sig .tc .hbm S2x160x1024 .f32) (f : v.ty.Contents (Elt Ideal)) (G : Fin 2 → Fin 1024 → Fin 160 → EReal)
    (w0 w1 : FVec Ideal S160x1024 .f32) (hn0 hn1) (h0 : ∀ x : S160x1024.Idx, w0 x = G 0 (x 1) (x 0)) (h1 : ∀ x : S160x1024.Idx, w1 x = G 1 (x 1) (x 0)) :
    v.read (Elt Ideal) (View.write (Elt Ideal)
        ((v.slice (Rect.unit (s := S2x160x1024) ![1, 0, 0] S1x160x1024.size inb_S2x160x1024_S1x160x1024_1_0_0)).reshape S160x1024 hn1)
        (View.write (Elt Ideal)
          ((v.slice (Rect.unit (s := S2x160x1024) ![0, 0, 0] S1x160x1024.size inb_S2x160x1024_S1x160x1024_0_0_0)).reshape S160x1024 hn0)
          f w0 Finset.univ) w1 Finset.univ) = fun y : S2x160x1024.Idx => G (y 0) (y 2) (y 1) := by
  have hx : ∀ (h : S160x1024.numel = S1x160x1024.numel) (x : S1x160x1024.Idx), (Shape.reshapeEquiv h).symm x = ix2 (x 1) (x 2) := fun h x =>
    (Equiv.symm_apply_eq _).mpr (by
      refine Eq.trans ?_ (undrop h (x 1) (x 2)).symm
      funext a
      fin_cases a
      · exact Fin.ext (by show (x 0).val = 0; have : (x 0).val < 1 := (x 0).isLt; omega)
      · rfl
      · rfl)
  rw [View.write_reshape_univ, View.write_reshape_univ]
  funext y
  refine View.read_writes_apply_of_pieces v f (fun y : S2x160x1024.Idx => G (y 0) (y 2) (y 1))
    [⟨Rect.unit (s := S2x160x1024) ![1, 0, 0] S1x160x1024.size inb_S2x160x1024_S1x160x1024_1_0_0, _⟩,
      ⟨Rect.unit (s := S2x160x1024) ![0, 0, 0] S1x160x1024.size inb_S2x160x1024_S1x160x1024_0_0_0, _⟩] ?_ y
    (View.cover_of_tiled (s := S2x160x1024) _ S1x160x1024.size rfl y)
  intro p hp x
  simp only [List.mem_cons, List.not_mem_nil, or_false] at hp
  rcases hp with rfl | rfl
  · refine (congrArg w1 (hx _ x)).trans ((h1 _).trans ?_)
    show G _ _ _ = G _ _ _
    congr 1
    · exact Fin.ext (by show 1 = 1 + 1 * (x 0).val; have : (x 0).val < 1 := (x 0).isLt; omega)
    · exact Fin.ext (by show (x 2).val = 0 + 1 * (x 2).val; omega)
    · exact Fin.ext (by show (x 1).val = 0 + 1 * (x 1).val; omega)
  · refine (congrArg w0 (hx _ x)).trans ((h0 _).trans ?_)
    show G _ _ _ = G _ _ _
    congr 1
    · exact Fin.ext (by show 0 = 0 + 1 * (x 0).val; have : (x 0).val < 1 := (x 0).isLt; omega)
    · exact Fin.ext (by show (x 2).val = 0 + 1 * (x 2).val; omega)
    · exact Fin.ext (by show (x 1).val = 0 + 1 * (x 1).val; omega)

end

section Body
variable (c : Dev nD) (f0 : MBuf Ideal c hb0) (f1 : MBuf Ideal c hb1) (f2 : MBuf Ideal c hb2) (f3 : MBuf Ideal c hb3) (f4 : MBuf Ideal c hb4)
  (f5 : MBuf Ideal c hb5) (f6 : MBuf Ideal c hb6) (f7 : MBuf Ideal c hb7)
  (g0 : MBuf Ideal c sc0) (g1 : MBuf Ideal c sc1) (g2 : MBuf Ideal c sc2) (g3 : MBuf Ideal c sc3) (g4 : MBuf Ideal c sc4)
  (g5 : MBuf Ideal c sc5) (g6 : MBuf Ideal c sc6) (g7 : MBuf Ideal c sc7) (g8 : MBuf Ideal c sc8) (g9 : MBuf Ideal c sc9)

/-- What the second product reads: the gradient of the logits times the tokens' scales. -/
theorem scaled_eq : run0.sl.v529 c f0 f1 f2 f3 f4 g1 g2 g3 g4 = fun y : S160x2048.Idx => DT f0 f1 f2 f3 f4 (y 1) (y 0) * scaleT f1 (y 1) := by
  funext y
  delta run0.sl.v529
  beta_reduce
  rw [body_scaled]
  show View.readAt (Elt Ideal) sc9.view _ _ y = _
  rw [View.readAt_apply]
  refine (View.read_writes_apply_of_pieces sc9.view _ (fun y : S160x2048.Idx => DT f0 f1 f2 f3 f4 (y 1) (y 0) * scaleT f1 (y 1)) _ ?_ _
    (View.cover_of_tiled (s := S160x2048) _ S160x512.size rfl _)).trans ?_
  · intro p hp x
    simp only [List.mem_cons, List.not_mem_nil, or_false] at hp
    rcases hp with rfl | rfl | rfl | rfl
    · exact scaled_piece f0 f1 f2 f3 f4 1 512 (by decide) _ (grad3_at f0 f1 f2 f3 f4) _ x _ _
        (by show 1536 + 1 * (x 1).val = 1 * 1024 + (512 + (x 1).val); omega) (by show 0 + 1 * (x 0).val = (x 0).val; omega)
    · exact scaled_piece f0 f1 f2 f3 f4 1 0 (by decide) _ (grad2_at f0 f1 f2 f3 f4) _ x _ _
        (by show 1024 + 1 * (x 1).val = 1 * 1024 + (0 + (x 1).val); omega) (by show 0 + 1 * (x 0).val = (x 0).val; omega)
    · exact scaled_piece f0 f1 f2 f3 f4 0 512 (by decide) _ (grad1_at f0 f1 f2 f3 f4) _ x _ _
        (by show 512 + 1 * (x 1).val = 0 * 1024 + (512 + (x 1).val); omega) (by show 0 + 1 * (x 0).val = (x 0).val; omega)
    · exact scaled_piece f0 f1 f2 f3 f4 0 0 (by decide) _ (grad0_at f0 f1 f2 f3 f4) _ x _ _
        (by show 0 + 1 * (x 1).val = 0 * 1024 + (0 + (x 1).val); omega) (by show 0 + 1 * (x 0).val = (x 0).val; omega)
  · exact congrArg₂ (fun t e => DT f0 f1 f2 f3 f4 t e * scaleT f1 t) (Fin.ext (by show 0 + 1 * (y 1).val = (y 1).val; omega))
      (Fin.ext (by show 0 + 1 * (y 0).val = (y 0).val; omega))

/-- The first row that the body sends out of its staging buffer. -/
theorem row0_eq (x : S160x1024.Idx) : run0.sl.dma42 c f0 f1 f2 f3 f4 g1 g2 g3 g4 g7 x = DL f0 f1 f2 f3 f4 0 (x 1) (x 0) := by
  delta run0.sl.dma42
  beta_reduce
  rw [body_outs_row0]
  refine (congrArg (fun z => View.read (Elt Ideal) sc7.view _
    ((Rect.unit (s := S2x160x1024) ![0, 0, 0] S1x160x1024.size inb_S2x160x1024_S1x160x1024_0_0_0).emb z))
    ((congrArg (Shape.reshapeEquiv casts_row) (eta2 x)).trans (undrop casts_row (x 0) (x 1)))).trans ?_
  refine (View.read_writes_apply_of_pieces sc7.view g7 (outArr f0 f1 f2 f3 f4) _ ?_ _ ?_).trans ?_
  · intro p hp z
    simp only [List.mem_cons, List.not_mem_nil, or_false] at hp
    rcases hp with rfl | rfl
    · exact out_piece f0 f1 f2 f3 f4 0 512 (by decide) _ (grad1_at f0 f1 f2 f3 f4) z _ _ _ (by show 0 + 1 * (z 0).val = 0; have : (z 0).val < 1 := (z 0).isLt; omega)
        (by show 512 + 1 * (z 2).val = 512 + (z 2).val; omega) (by show 0 + 1 * (z 1).val = (z 1).val; omega)
    · exact out_piece f0 f1 f2 f3 f4 0 0 (by decide) _ (grad0_at f0 f1 f2 f3 f4) z _ _ _ (by show 0 + 1 * (z 0).val = 0; have : (z 0).val < 1 := (z 0).isLt; omega)
        (by show 0 + 1 * (z 2).val = 0 + (z 2).val; omega) (by show 0 + 1 * (z 1).val = (z 1).val; omega)
  · by_cases h : (x 1).val < 512
    · refine ⟨_, List.mem_cons_of_mem _ List.mem_cons_self, (LoadRect.mem_set _).mpr fun a => ?_⟩
      fin_cases a
      · exact ⟨0, Nat.one_pos, rfl⟩
      · exact ⟨(x 0).val, (x 0).isLt, rfl⟩
      · exact ⟨(x 1).val, h, rfl⟩
    · refine ⟨_, List.mem_cons_self, (LoadRect.mem_set _).mpr fun a => ?_⟩
      have hx : (x 1).val < 1024 := (x 1).isLt
      fin_cases a
      · exact ⟨0, Nat.one_pos, rfl⟩
      · exact ⟨(x 0).val, (x 0).isLt, rfl⟩
      · exact ⟨(x 1).val - 512, by show (x 1).val - 512 < 512; omega, by show 0 + 1 * (x 1).val = 512 + 1 * ((x 1).val - 512); omega⟩
  · show DL f0 f1 f2 f3 f4 _ _ _ = DL f0 f1 f2 f3 f4 _ _ _
    congr 1
    · exact Fin.ext (by show 0 + 1 * (x 1).val = (x 1).val; omega)
    · exact Fin.ext (by show 0 + 1 * (x 0).val = (x 0).val; omega)

/-- The second row that the body sends out of its staging buffer. -/
theorem row1_eq (x : S160x1024.Idx) : run0.sl.dma84 c f0 f1 f2 f3 f4 g1 g2 g3 g4 g7 x = DL f0 f1 f2 f3 f4 1 (x 1) (x 0) := by
  delta run0.sl.dma84
  beta_reduce
  rw [body_outs]
  refine (congrArg (fun z => View.read (Elt Ideal) sc7.view _
    ((Rect.unit (s := S2x160x1024) ![1, 0, 0] S1x160x1024.size inb_S2x160x1024_S1x160x1024_1_0_0).emb z))
    ((congrArg (Shape.reshapeEquiv casts_row) (eta2 x)).trans (undrop casts_row (x 0) (x 1)))).trans ?_
  refine (View.read_writes_apply_of_pieces sc7.view g7 (outArr f0 f1 f2 f3 f4) _ ?_ _ (View.cover_of_tiled (s := S2x160x1024) _ S1x160x512.size rfl _)).trans ?_
  · intro p hp z
    simp only [List.mem_cons, List.not_mem_nil, or_false] at hp
    rcases hp with rfl | rfl | rfl | rfl
    · exact out_piece f0 f1 f2 f3 f4 1 512 (by decide) _ (grad3_at f0 f1 f2 f3 f4) z _ _ _ (by show 1 + 1 * (z 0).val = 1; have : (z 0).val < 1 := (z 0).isLt; omega)
        (by show 512 + 1 * (z 2).val = 512 + (z 2).val; omega) (by show 0 + 1 * (z 1).val = (z 1).val; omega)
    · exact out_piece f0 f1 f2 f3 f4 1 0 (by decide) _ (grad2_at f0 f1 f2 f3 f4) z _ _ _ (by show 1 + 1 * (z 0).val = 1; have : (z 0).val < 1 := (z 0).isLt; omega)
        (by show 0 + 1 * (z 2).val = 0 + (z 2).val; omega) (by show 0 + 1 * (z 1).val = (z 1).val; omega)
    · exact out_piece f0 f1 f2 f3 f4 0 512 (by decide) _ (grad1_at f0 f1 f2 f3 f4) z _ _ _ (by show 0 + 1 * (z 0).val = 0; have : (z 0).val < 1 := (z 0).isLt; omega)
        (by show 512 + 1 * (z 2).val = 512 + (z 2).val; omega) (by show 0 + 1 * (z 1).val = (z 1).val; omega)
    · exact out_piece f0 f1 f2 f3 f4 0 0 (by decide) _ (grad0_at f0 f1 f2 f3 f4) z _ _ _ (by show 0 + 1 * (z 0).val = 0; have : (z 0).val < 1 := (z 0).isLt; omega)
        (by show 0 + 1 * (z 2).val = 0 + (z 2).val; omega) (by show 0 + 1 * (z 1).val = (z 1).val; omega)
  · show DL f0 f1 f2 f3 f4 _ _ _ = DL f0 f1 f2 f3 f4 _ _ _
    congr 1
    · exact Fin.ext (by show 0 + 1 * (x 1).val = (x 1).val; omega)
    · exact Fin.ext (by show 0 + 1 * (x 0).val = (x 0).val; omega)

/-- What the body leaves in the first result. -/
theorem res_dx : (run0 c f0 f1 f2 f3 f4 f5 f6 f7 g0 g1 g2 g3 g4 g5 g6 g7 g8 g9).1.1 = fun y : S2048x6144.Idx => dxAt f0 f1 f2 f3 f4 (y 0) (y 1) := by
  delta run0
  dsimp only
  refine (View.read_whole (Val := Elt Ideal) main_v4_0 _).symm.trans ?_
  exact dx_cols (View.whole main_v4_0 : View sig .tc .hbm S2048x6144 .bf16) f5 (dxAt f0 f1 f2 f3 f4)
    (run0.sl.dma88 c f0 f1 f2 f3 f4 g1 g2 g3 g4 g5)
    (run0.sl.dma96 c f0 f1 f2 f3 f4 g1 g2 g3 g4 g5)
    (run0.sl.dma104 c f0 f1 f2 f3 f4 g1 g2 g3 g4 g5)
    (run0.sl.dma112 c f0 f1 f2 f3 f4 g1 g2 g3 g4 g5)
    (run0.sl.dma120 c f0 f1 f2 f3 f4 g1 g2 g3 g4 g5)
    (run0.sl.dma128 c f0 f1 f2 f3 f4 g1 g2 g3 g4 g5)
    (run0.sl.dma136 c f0 f1 f2 f3 f4 g1 g2 g3 g4 g5)
    (run0.sl.dma144 c f0 f1 f2 f3 f4 g1 g2 g3 g4 g5)
    (run0.sl.dma152 c f0 f1 f2 f3 f4 g1 g2 g3 g4 g5)
    (run0.sl.dma160 c f0 f1 f2 f3 f4 g1 g2 g3 g4 g5)
    (run0.sl.dma168 c f0 f1 f2 f3 f4 g1 g2 g3 g4 g5)
    (run0.sl.dma176 c f0 f1 f2 f3 f4 g1 g2 g3 g4 g5)
    (fun x t d ht hd => (congrFun (dx_0 c f0 f1 f2 f3 f4 g1 g2 g3 g4 g5) x).trans (dx_piece f0 f1 f2 f3 f4 _ (flips_eq c f0 f1 f2 f3 f4 g1 g2 g3 g4) 0 _ x t d ht hd))
    (fun x t d ht hd => (congrFun (dx_1 c f0 f1 f2 f3 f4 g1 g2 g3 g4 g5) x).trans (dx_piece f0 f1 f2 f3 f4 _ (flips_eq c f0 f1 f2 f3 f4 g1 g2 g3 g4) 512 _ x t d ht hd))
    (fun x t d ht hd => (congrFun (dx_2 c f0 f1 f2 f3 f4 g1 g2 g3 g4 g5) x).trans (dx_piece f0 f1 f2 f3 f4 _ (flips_eq c f0 f1 f2 f3 f4 g1 g2 g3 g4) 1024 _ x t d ht hd))
    (fun x t d ht hd => (congrFun (dx_3 c f0 f1 f2 f3 f4 g1 g2 g3 g4 g5) x).trans (dx_piece f0 f1 f2 f3 f4 _ (flips_eq c f0 f1 f2 f3 f4 g1 g2 g3 g4) 1536 _ x t d ht hd))
    (fun x t d ht hd => (congrFun (dx_4 c f0 f1 f2 f3 f4 g1 g2 g3 g4 g5) x).trans (dx_piece f0 f1 f2 f3 f4 _ (flips_eq c f0 f1 f2 f3 f4 g1 g2 g3 g4) 2048 _ x t d ht hd))
    (fun x t d ht hd => (congrFun (dx_5 c f0 f1 f2 f3 f4 g1 g2 g3 g4 g5) x).trans (dx_piece f0 f1 f2 f3 f4 _ (flips_eq c f0 f1 f2 f3 f4 g1 g2 g3 g4) 2560 _ x t d ht hd))
    (fun x t d ht hd => (congrFun (dx_6 c f0 f1 f2 f3 f4 g1 g2 g3 g4 g5) x).trans (dx_piece f0 f1 f2 f3 f4 _ (flips_eq c f0 f1 f2 f3 f4 g1 g2 g3 g4) 3072 _ x t d ht hd))
    (fun x t d ht hd => (congrFun (dx_7 c f0 f1 f2 f3 f4 g1 g2 g3 g4 g5) x).trans (dx_piece f0 f1 f2 f3 f4 _ (flips_eq c f0 f1 f2 f3 f4 g1 g2 g3 g4) 3584 _ x t d ht hd))
    (fun x t d ht hd => (congrFun (dx_8 c f0 f1 f2 f3 f4 g1 g2 g3 g4 g5) x).trans (dx_piece f0 f1 f2 f3 f4 _ (flips_eq c f0 f1 f2 f3 f4 g1 g2 g3 g4) 4096 _ x t d ht hd))
    (fun x t d ht hd => (congrFun (dx_9 c f0 f1 f2 f3 f4 g1 g2 g3 g4 g5) x).trans (dx_piece f0 f1 f2 f3 f4 _ (flips_eq c f0 f1 f2 f3 f4 g1 g2 g3 g4) 4608 _ x t d ht hd))
    (fun x t d ht hd => (congrFun (dx_10 c f0 f1 f2 f3 f4 g1 g2 g3 g4 g5) x).trans (dx_piece f0 f1 f2 f3 f4 _ (flips_eq c f0 f1 f2 f3 f4 g1 g2 g3 g4) 5120 _ x t d ht hd))
    (fun x t d ht hd => (congrFun (dx_11 c f0 f1 f2 f3 f4 g1 g2 g3 g4 g5) x).trans (dx_piece f0 f1 f2 f3 f4 _ (flips_eq c f0 f1 f2 f3 f4 g1 g2 g3 g4) 5632 _ x t d ht hd))

/-- What the body leaves in the second result. -/
theorem res_dw : (run0 c f0 f1 f2 f3 f4 f5 f6 f7 g0 g1 g2 g3 g4 g5 g6 g7 g8 g9).1.2.1 = fun y : S160x6144.Idx => dwAt f0 f1 f2 f3 f4 (y 0) (y 1) := by
  delta run0
  dsimp only
  refine (View.read_whole (Val := Elt Ideal) main_v4_1 _).symm.trans ?_
  exact dw_cols (View.whole main_v4_1 : View sig .tc .hbm S160x6144 .f32) f6 (dwAt f0 f1 f2 f3 f4)
    (run0.sl.dma92 c f0 f1 f2 f3 f4 g1 g2 g3 g4 g6)
    (run0.sl.dma100 c f0 f1 f2 f3 f4 g1 g2 g3 g4 g6)
    (run0.sl.dma108 c f0 f1 f2 f3 f4 g1 g2 g3 g4 g6)
    (run0.sl.dma116 c f0 f1 f2 f3 f4 g1 g2 g3 g4 g6)
    (run0.sl.dma124 c f0 f1 f2 f3 f4 g1 g2 g3 g4 g6)
    (run0.sl.dma132 c f0 f1 f2 f3 f4 g1 g2 g3 g4 g6)
    (run0.sl.dma140 c f0 f1 f2 f3 f4 g1 g2 g3 g4 g6)
    (run0.sl.dma148 c f0 f1 f2 f3 f4 g1 g2 g3 g4 g6)
    (run0.sl.dma156 c f0 f1 f2 f3 f4 g1 g2 g3 g4 g6)
    (run0.sl.dma164 c f0 f1 f2 f3 f4 g1 g2 g3 g4 g6)
    (run0.sl.dma172 c f0 f1 f2 f3 f4 g1 g2 g3 g4 g6)
    (run0.sl.dma180 c f0 f1 f2 f3 f4 g1 g2 g3 g4 g6)
    (fun x t d ht hd => (congrFun (dw_0 c f0 f1 f2 f3 f4 g1 g2 g3 g4 g6) x).trans (dw_piece f0 f1 f2 f3 f4 _ (scaled_eq c f0 f1 f2 f3 f4 g1 g2 g3 g4) 0 _ x t d ht hd))
    (fun x t d ht hd => (congrFun (dw_1 c f0 f1 f2 f3 f4 g1 g2 g3 g4 g6) x).trans (dw_piece f0 f1 f2 f3 f4 _ (scaled_eq c f0 f1 f2 f3 f4 g1 g2 g3 g4) 512 _ x t d ht hd))
    (fun x t d ht hd => (congrFun (dw_2 c f0 f1 f2 f3 f4 g1 g2 g3 g4 g6) x).trans (dw_piece f0 f1 f2 f3 f4 _ (scaled_eq c f0 f1 f2 f3 f4 g1 g2 g3 g4) 1024 _ x t d ht hd))
    (fun x t d ht hd => (congrFun (dw_3 c f0 f1 f2 f3 f4 g1 g2 g3 g4 g6) x).trans (dw_piece f0 f1 f2 f3 f4 _ (scaled_eq c f0 f1 f2 f3 f4 g1 g2 g3 g4) 1536 _ x t d ht hd))
    (fun x t d ht hd => (congrFun (dw_4 c f0 f1 f2 f3 f4 g1 g2 g3 g4 g6) x).trans (dw_piece f0 f1 f2 f3 f4 _ (scaled_eq c f0 f1 f2 f3 f4 g1 g2 g3 g4) 2048 _ x t d ht hd))
    (fun x t d ht hd => (congrFun (dw_5 c f0 f1 f2 f3 f4 g1 g2 g3 g4 g6) x).trans (dw_piece f0 f1 f2 f3 f4 _ (scaled_eq c f0 f1 f2 f3 f4 g1 g2 g3 g4) 2560 _ x t d ht hd))
    (fun x t d ht hd => (congrFun (dw_6 c f0 f1 f2 f3 f4 g1 g2 g3 g4 g6) x).trans (dw_piece f0 f1 f2 f3 f4 _ (scaled_eq c f0 f1 f2 f3 f4 g1 g2 g3 g4) 3072 _ x t d ht hd))
    (fun x t d ht hd => (congrFun (dw_7 c f0 f1 f2 f3 f4 g1 g2 g3 g4 g6) x).trans (dw_piece f0 f1 f2 f3 f4 _ (scaled_eq c f0 f1 f2 f3 f4 g1 g2 g3 g4) 3584 _ x t d ht hd))
    (fun x t d ht hd => (congrFun (dw_8 c f0 f1 f2 f3 f4 g1 g2 g3 g4 g6) x).trans (dw_piece f0 f1 f2 f3 f4 _ (scaled_eq c f0 f1 f2 f3 f4 g1 g2 g3 g4) 4096 _ x t d ht hd))
    (fun x t d ht hd => (congrFun (dw_9 c f0 f1 f2 f3 f4 g1 g2 g3 g4 g6) x).trans (dw_piece f0 f1 f2 f3 f4 _ (scaled_eq c f0 f1 f2 f3 f4 g1 g2 g3 g4) 4608 _ x t d ht hd))
    (fun x t d ht hd => (congrFun (dw_10 c f0 f1 f2 f3 f4 g1 g2 g3 g4 g6) x).trans (dw_piece f0 f1 f2 f3 f4 _ (scaled_eq c f0 f1 f2 f3 f4 g1 g2 g3 g4) 5120 _ x t d ht hd))
    (fun x t d ht hd => (congrFun (dw_11 c f0 f1 f2 f3 f4 g1 g2 g3 g4 g6) x).trans (dw_piece f0 f1 f2 f3 f4 _ (scaled_eq c f0 f1 f2 f3 f4 g1 g2 g3 g4) 5632 _ x t d ht hd))

/-- What the body leaves in the third result. -/
theorem res_dlog : (run0 c f0 f1 f2 f3 f4 f5 f6 f7 g0 g1 g2 g3 g4 g5 g6 g7 g8 g9).1.2.2 = outArr f0 f1 f2 f3 f4 := by
  delta run0
  dsimp only
  exact rows_fill (View.whole main_v4_2 : View sig .tc .hbm S2x160x1024 .f32) f7 (DL f0 f1 f2 f3 f4) _ _ _ _ (row0_eq c f0 f1 f2 f3 f4 g1 g2 g3 g4 g7) (row1_eq c f0 f1 f2 f3 f4 g1 g2 g3 g4 g7)

end Body

end Cert.KernelIdeal.Hand

end
-- ==== Proof.ValueLaunch.lean ====
module

public import proofs.«01_k».proof.Proof.IdealLaunch
public import proofs.«01_k».proof.Proof.Results
public import Idealize.ShloMosaic.Lib.Pipeline.FrameSuffixV
public import Idealize.ShloMosaic.Lib.Claim

/-! The kernel's run over the extended reals with its results: what the region leaves in its three arrays, and what the host lines
after it make of them. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The proof's user algebra: the pipeline library's beside the transfers' counters. -/
local notation "𝕄" => MT nD τ sig Unit (Elt Ideal) ℕ (Pipeline.UD sig nD τ) ℕ

variable (m : (ℓ : Loc nD τ sig) → Buf (Elt Ideal) ℓ) (ρ : Dev nD → PrngReg)

/-- The first result array, from the operands as the region finds them. -/
def dxArr (c : Dev nD) : MBuf Ideal c hb5 := fun y : S2048x6144.Idx =>
  dxAt (Gen.V m c main_v0) (Gen.V m c main_arg1) (Gen.V m c main_v1) (Gen.V m c main_v2) (Gen.V m c main_v3) (y 0) (y 1)

/-- The second result array. -/
def dwArr (c : Dev nD) : MBuf Ideal c hb6 := fun y : S160x6144.Idx =>
  dwAt (Gen.V m c main_v0) (Gen.V m c main_arg1) (Gen.V m c main_v1) (Gen.V m c main_v2) (Gen.V m c main_v3) (y 0) (y 1)

/-- The third result array. -/
def dlArr (c : Dev nD) : MBuf Ideal c hb7 :=
  outArr (Gen.V m c main_v0) (Gen.V m c main_arg1) (Gen.V m c main_v1) (Gen.V m c main_v2) (Gen.V m c main_v3)

/-- What the region leaves in every buffer: its three results, the others as it found them. -/
def after0 (c : Dev nD) : (b : Ref sig .tc) → Buf (Elt Ideal) ((c : Thread nD τ).loc b) :=
  Function.update (Function.update (Function.update (Gen.V m c) main_v4_0 (dxArr m c)) main_v4_1 (dwArr m c)) main_v4_2 (dlArr m c)

theorem after0_dx (c : Dev nD) : after0 m c main_v4_0 = dxArr m c := by
  unfold after0
  rw [Function.update_of_ne (by decide), Function.update_of_ne (by decide), Function.update_self]
theorem after0_dw (c : Dev nD) : after0 m c main_v4_1 = dwArr m c := by
  unfold after0
  rw [Function.update_of_ne (by decide), Function.update_self]
theorem after0_dl (c : Dev nD) : after0 m c main_v4_2 = dlArr m c := by
  unfold after0
  rw [Function.update_self]

/-- The proof data: no windows, the operands kept, the results as found before the one point and as the body leaves them after it. -/
def datsV (_ : Fin 1) (c : Dev nD) : Dat τ (Elt Ideal) Unit ℕ (Pipeline.UD sig nD τ) ℕ cfg0 c where
  A w := w.elim0
  after w t := w.elim0
  Φ t := if t = 0 then Pipeline.ΦDRV osem0 cfg0.spec H0 R0 (Gen.V m) (Gen.V m) c
    else Pipeline.ΦDRV osem0 cfg0.spec H0 R0 (Gen.V m) (after0 m) c
  q _ := fullShare
  owed _ := 0

theorem datsV_first (c : Dev nD) (t : Fin cfg0.N) :
    (datsV m 0 c).Φ t.castSucc = Pipeline.ΦDRV osem0 cfg0.spec H0 R0 (Gen.V m) (Gen.V m) c :=
  if_pos (Fin.ext (by have h : t.val < 1 := t.isLt; show t.val = 0; omega))

theorem datsV_last (c : Dev nD) (t : Fin cfg0.N) :
    (datsV m 0 c).Φ t.succ = Pipeline.ΦDRV osem0 cfg0.spec H0 R0 (Gen.V m) (after0 m) c := by
  dsimp only [datsV]
  rw [if_neg (Fin.succ_ne_zero t)]

theorem body_value (c : Dev nD) : BodyObligation (datsV m 0 c) (defs₀ (F := Ideal)) Variants.none () Set.univ := fun t => by
  rw [defs₀_row, datsV_first, datsV_last]
  unfold Pipeline.ΦDRV
  rw [scratch_eq, ownSems0_eq, opPts_eq, resPts_eq, resPts_eq, after0_dx, after0_dw, after0_dl]
  unfold Dat.owesAt Pipeline.owesWithin
  rw [show (datsV m 0 c).owed t.castSucc = 0 from rfl, show (datsV m 0 c).owed t.succ = 0 from rfl]
  iintro ⟨⟨⟨⟨%g0, Hs0⟩, ⟨%g1, Hs1⟩, ⟨%g2, Hs2⟩, ⟨%g3, Hs3⟩, ⟨%g4, Hs4⟩, ⟨%g5, Hs5⟩, ⟨%g6, Hs6⟩, ⟨%g7, Hs7⟩, ⟨%g8, Hs8⟩, ⟨%g9, Hs9⟩⟩, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24⟩, ⟨Hh0, Hh1, Hh2, Hh3, Hh4⟩, ⟨Hh5, Hh6, Hh7⟩⟩, ⟨%W, -, HW⟩, Hw⟩
  iapply (run0 c (Gen.V m c main_v0) (Gen.V m c main_arg1) (Gen.V m c main_v1) (Gen.V m c main_v2) (Gen.V m c main_v3) (Gen.V m c main_v4_0) (Gen.V m c main_v4_1) (Gen.V m c main_v4_2) g0 g1 g2 g3 g4 g5 g6 g7 g8 g9).2 W _
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [HW]; · iexact HW
  iintro ⟨Hh0, Hh1, Hh2, Hh3, Hh4, Hh5, Hh6, Hh7, Hs0, Hs1, Hs2, Hs3, Hs4, Hs5, Hs6, Hs7, Hs8, Hs9, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, ⟨%W', HW'⟩⟩
  isplitl [Hs0 Hs1 Hs2 Hs3 Hs4 Hs5 Hs6 Hs7 Hs8 Hs9 Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hh0 Hh1 Hh2 Hh3 Hh4 Hh5 Hh6 Hh7]
  · isplitl [Hs0 Hs1 Hs2 Hs3 Hs4 Hs5 Hs6 Hs7 Hs8 Hs9]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      iexact Hs9
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      iexact Hq24
    isplitl [Hh0 Hh1 Hh2 Hh3 Hh4]
    · isplitl [Hh0]; · iexact Hh0
      isplitl [Hh1]; · iexact Hh1
      isplitl [Hh2]; · iexact Hh2
      isplitl [Hh3]; · iexact Hh3
      iexact Hh4
    isplitl [Hh5]
    · rw [show dxArr m c = _ from (res_dx c (Gen.V m c main_v0) (Gen.V m c main_arg1) (Gen.V m c main_v1) (Gen.V m c main_v2) (Gen.V m c main_v3) (Gen.V m c main_v4_0) (Gen.V m c main_v4_1) (Gen.V m c main_v4_2) g0 g1 g2 g3 g4 g5 g6 g7 g8 g9).symm]; iexact Hh5
    isplitl [Hh6]
    · rw [show dwArr m c = _ from (res_dw c (Gen.V m c main_v0) (Gen.V m c main_arg1) (Gen.V m c main_v1) (Gen.V m c main_v2) (Gen.V m c main_v3) (Gen.V m c main_v4_0) (Gen.V m c main_v4_1) (Gen.V m c main_v4_2) g0 g1 g2 g3 g4 g5 g6 g7 g8 g9).symm]; iexact Hh6
    rw [show dlArr m c = _ from (res_dlog c (Gen.V m c main_v0) (Gen.V m c main_arg1) (Gen.V m c main_v1) (Gen.V m c main_v2) (Gen.V m c main_v3) (Gen.V m c main_v4_0) (Gen.V m c main_v4_1) (Gen.V m c main_v4_2) g0 g1 g2 g3 g4 g5 g6 g7 g8 g9).symm]; iexact Hh7
  isplitl [HW']
  · iexists W'; isplitr; · ipureintro; exact fun _ _ => Or.inl trivial
    iexact HW'
  iexact Hw

/-- What the run leaves in the buffers that no window stages, before the host lines after the region are read. -/
def endVal (c : Dev nD) (b : Ref sig .tc) : Buf (Elt Ideal) ((c : Thread nD τ).loc b) :=
  StableHlo.after hostOps1 (Pipeline.withArrays cfg0.spec c (Pipeline.withR (Gen.V0 m c) R0 c (after0 m c)) fun w => (datsV m 0 c).arrAt w cfg0.N) (Proc.devRef .tc b)

set_option backward.isDefEq.respectTransparency.types false in
theorem run_value : θ_run defs (onTc (τ := τ) (main (F := Ideal))) (s₀ m ρ)
    (fun r => ∀ c : Dev nD, ∀ b ∈ Pipeline.restRefs sig cfg0.spec, r.2.mem ((c : Thread nD τ).loc b) = endVal m c b) :=
  Pipeline.θ_run_frame_dmaR_aroundV (Q' := _) cfgs (datsV m) (0 : Fin 1) launch0 osem0 defs₀ Variants.none ownSemFacts0 H0 R0 H0_sub R0_sub m ρ main
    (hbody := fun c => (body_value m c).loose) (hshare := fun c => (datsV m 0 c).share_full fun _ => rfl)
    (howed := fun _ _ => rfl) (V₀ := Gen.V0 m) (opss := [hostOps1]) (hsub := sfx_sub) (hfresh := sfx_fresh) (hkeep := sfx_keeps)
    (G := after0 m) (hmain := hmain m Variants.none) (hA := fun _ w => w.elim0) (hin := fun c => Entails.of_eq (datsV_first m c ⟨0, by decide⟩).symm)
    (hout := fun c => Entails.of_eq (datsV_last m c ⟨0, by decide⟩))
    (hQ' := fun r h c b hb => (h.1 c).2 b hb)

/-- What the host lines after the region read: a buffer that no window stages, as the region leaves it. -/
theorem region_end (c : Dev nD) (b : Ref sig .tc) (hb : b ∉ R0) :
    Pipeline.withArrays cfg0.spec c (Pipeline.withR (Gen.V0 m c) R0 c (after0 m c)) (fun w => (datsV m 0 c).arrAt w cfg0.N) (Proc.devRef .tc b)
      = Gen.V m c b := by
  rw [Pipeline.withArrays_of_ne _ _ _ _ b fun w => w.elim0, Pipeline.withR_of_not_mem _ _ _ _ b hb]

theorem region_result (c : Dev nD) (b : Ref sig .tc) (hb : b ∈ R0) :
    Pipeline.withArrays cfg0.spec c (Pipeline.withR (Gen.V0 m c) R0 c (after0 m c)) (fun w => (datsV m 0 c).arrAt w cfg0.N) (Proc.devRef .tc b)
      = after0 m c b := by
  rw [Pipeline.withArrays_of_ne _ _ _ _ b fun w => w.elim0, Pipeline.withR_of_mem _ _ _ _ b hb]

/-- The first result: the first array, its tokens split into rows. -/
theorem end_dx (c : Dev nD) : endVal m c main_v5 = shapeCast S2x1024x6144 (dxArr m c) shapeCasts_S2048x6144_S2x1024x6144 := by
  unfold endVal hostOps1
  after_results
  rw [region_result m c main_v4_0 (by decide), after0_dx]
  rfl

/-- The second result: the second array transposed. -/
theorem end_dw (c : Dev nD) : endVal m c main_v6 = transpose S6144x160 [1, 0] (dwArr m c) transposes_S160x6144_S6144x160_1_0 := by
  unfold endVal hostOps1
  after_results
  rw [region_result m c main_v4_1 (by decide), after0_dw]

/-- The third result: the third array, experts last. -/
theorem end_dl (c : Dev nD) : endVal m c main_v7 = transpose S2x1024x160 [0, 2, 1] (dlArr m c) transposes_S2x160x1024_S2x1024x160_0_2_1 := by
  unfold endVal hostOps1
  after_results
  rw [region_result m c main_v4_2 (by decide), after0_dl]

/-- A buffer that neither the region nor a line after it writes ends as the region finds it. -/
theorem end_kept (c : Dev nD) (b : Ref sig .tc) (hb : b ∉ R0) (hT : b ∉ T0) : endVal m c b = Gen.V m c b := by
  unfold endVal
  rw [StableHlo.after_of_forall_not_mem (b := Proc.devRef .tc b) _ _ fun op hop h => hT (sfx_T _ (List.mem_singleton.mpr rfl) op hop b h)]
  exact region_end m c b hb

/-- The operands as the region finds them: the first argument with its tokens in one list, the others with the tokens last. -/
theorem entry_x (c : Dev nD) : Gen.V m c main_v0 = shapeCast S2048x6144 (m ((c : Thread nD τ).loc main_arg0)) shapeCasts_S2x1024x6144_S2048x6144 := by
  show StableHlo.after (List.flatten [hostOps0]) (fun b => m (c, b)) _ = _
  rw [List.flatten_singleton]
  unfold hostOps0
  after_results
  rfl
theorem entry_w (c : Dev nD) : Gen.V m c main_v1 = transpose S160x6144 [1, 0] (m ((c : Thread nD τ).loc main_arg2)) transposes_S6144x160_S160x6144_1_0 := by
  show StableHlo.after (List.flatten [hostOps0]) (fun b => m (c, b)) _ = _
  rw [List.flatten_singleton]
  unfold hostOps0
  after_results
theorem entry_id (c : Dev nD) : Gen.V m c main_v2 = transpose S6x2x1024 [2, 0, 1] (m ((c : Thread nD τ).loc main_arg3)) transposes_S2x1024x6_S6x2x1024_2_0_1 := by
  show StableHlo.after (List.flatten [hostOps0]) (fun b => m (c, b)) _ = _
  rw [List.flatten_singleton]
  unfold hostOps0
  after_results
theorem entry_dg (c : Dev nD) : Gen.V m c main_v3 = transpose S6x2x1024 [2, 0, 1] (m ((c : Thread nD τ).loc main_arg4)) transposes_S2x1024x6_S6x2x1024_2_0_1 := by
  show StableHlo.after (List.flatten [hostOps0]) (fun b => m (c, b)) _ = _
  rw [List.flatten_singleton]
  unfold hostOps0
  after_results

/-- The kernel's run over the extended reals: its three results, from the arrays that the region leaves, and its arguments unchanged. -/
theorem run_results : θ_run defs (onTc (τ := τ) (main (F := Ideal))) ⟨m, fun _ => 0, ρ⟩ (fun r => ∀ c : Dev nD,
      r.2.mem ((c : Thread nD τ).loc main_v5) = shapeCast S2x1024x6144 (dxArr m c) shapeCasts_S2048x6144_S2x1024x6144
      ∧ r.2.mem ((c : Thread nD τ).loc main_v6) = transpose S6144x160 [1, 0] (dwArr m c) transposes_S160x6144_S6144x160_1_0
      ∧ r.2.mem ((c : Thread nD τ).loc main_v7) = transpose S2x1024x160 [0, 2, 1] (dlArr m c) transposes_S2x160x1024_S2x1024x160_0_2_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨
      (h c main_v5 (Pipeline.mem_restRefs_of main_v5 (by decide) (by decide))).trans (end_dx m c),
      (h c main_v6 (Pipeline.mem_restRefs_of main_v6 (by decide) (by decide))).trans (end_dw m c),
      (h c main_v7 (Pipeline.mem_restRefs_of main_v7 (by decide) (by decide))).trans (end_dl m c),
      ((h c main_arg0 (Pipeline.mem_restRefs_of main_arg0 (by decide) (by decide))).trans (end_kept m c main_arg0 (by decide) (by decide))).trans (V_main_arg0 m c),
      ((h c main_arg1 (Pipeline.mem_restRefs_of main_arg1 (by decide) (by decide))).trans (end_kept m c main_arg1 (by decide) (by decide))).trans (V_main_arg1 m c),
      ((h c main_arg2 (Pipeline.mem_restRefs_of main_arg2 (by decide) (by decide))).trans (end_kept m c main_arg2 (by decide) (by decide))).trans (V_main_arg2 m c),
      ((h c main_arg3 (Pipeline.mem_restRefs_of main_arg3 (by decide) (by decide))).trans (end_kept m c main_arg3 (by decide) (by decide))).trans (V_main_arg3 m c),
      ((h c main_arg4 (Pipeline.mem_restRefs_of main_arg4 (by decide) (by decide))).trans (end_kept m c main_arg4 (by decide) (by decide))).trans (V_main_arg4 m c)⟩) (run_value m ρ)

end Cert.KernelIdeal.Hand

end
-- ==== Proof.ReferenceAt.lean ====
module

public import proofs.«01_k».proof.Proof.RowMath
public import proofs.«01_k».proof.Proof.Gen.ReferenceIdeal.Value

/-! What the reference computes over the extended reals, at an index of each of its three results. -/

@[expose] public section

set_option maxRecDepth 16384

noncomputable section

namespace Cert.ReferenceIdeal.Hand

open Cert.ReferenceIdeal Cert.RouterMath
open Idealize.ShloMosaic Idealize.ShloMosaic.TcCoe

variable (a0 : Vec Ideal S2x1024x6144 .fp8e4m3) (a1 : Vec Ideal S2x1024 .f32) (a2 : Vec Ideal S6144x160 .bf16) (a3 : Vec Ideal S2x1024x6 .i32)
  (a4 : Vec Ideal S2x1024x6 .bf16)

/-- The gradient of the logits of token `(b, s)` at expert `e`, from the five arguments. -/
def DL (b : Fin 2) (s : Fin 1024) (e : Fin 160) : EReal :=
  dlogit (fun b s d => a0 (ix3 b s d)) (fun b s => a1 (ix2 b s)) (fun d e => a2 (ix2 d e)) (fun b s k => a3 (ix3 b s k))
    (fun b s k => a4 (ix3 b s k)) b s e

/-- The third result: the gradient of the logits. -/
theorem dl_at (b : Fin 2) (s : Fin 1024) (e : Fin 160) :
    Cert.ReferenceIdeal.Value.G7 a0 a1 a2 a3 a4 (ix3 b s e) = DL a0 a1 a2 a3 a4 b s e := by
  unfold Cert.ReferenceIdeal.Value.G7
  unfold_payloads
  pointwise []
  simp only [max_start_rowMax]
  rfl

/-- The first result: the gradient of the logits times the weights. -/
theorem dx_at (b : Fin 2) (s : Fin 1024) (d : Fin 6144) :
    Cert.ReferenceIdeal.Value.G5 a0 a1 a2 a3 a4 (ix3 b s d) = ∑ e, DL a0 a1 a2 a3 a4 b s e * a2 (ix2 d e) := by
  unfold Cert.ReferenceIdeal.Value.G5
  unfold_payloads
  pointwise []
  simp only [max_start_rowMax]
  rfl

/-- The second result: the tokens times the scaled gradient of the logits, summed over all tokens. -/
theorem dw_at (d : Fin 6144) (e : Fin 160) :
    Cert.ReferenceIdeal.Value.G6 a0 a1 a2 a3 a4 (ix2 d e)
      = ∑ b, ∑ s, a0 (ix3 b s d) * (DL a0 a1 a2 a3 a4 b s e * a1 (ix2 b s)) := by
  unfold Cert.ReferenceIdeal.Value.G6
  unfold_payloads
  pointwise []
  simp only [max_start_rowMax]
  rfl

end Cert.ReferenceIdeal.Hand

end
-- ==== Proof.Equation.lean ====
module

public import proofs.«01_k».proof.Proof.Results
public import proofs.«01_k».proof.Proof.ReferenceAt

/-! The kernel's three arrays, read the way the host lines around it lay them out, are the reference's three results over the extended
reals. -/

@[expose] public section

set_option maxRecDepth 16384

noncomputable section

namespace Cert.KernelIdeal.Hand

open Cert.KernelIdeal Cert.KernelIdeal.Gen Cert.RouterMath
open Idealize.ShloMosaic Idealize.ShloMosaic.TcCoe

/-- A sum over the flattened tokens is the sum over the rows of the sums over their tokens. -/
theorem sum_tok (g : Fin 2048 → EReal) : ∑ t, g t = ∑ b : Fin 2, ∑ s : Fin 1024, g (tok b s) := by
  rw [← Fintype.sum_prod_type' (f := fun b s => g (tok b s))]
  refine (Fintype.sum_equiv (finProdFinEquiv (m := 2) (n := 1024)) _ _ fun x => congrArg g (Fin.ext ?_)).symm
  show x.1.val * 1024 + x.2.val = x.2.val + 1024 * x.1.val
  omega

/-- A matrix of tokens split into rows, at an index. -/
theorem split_at {α : Type} (v : S2048x6144.Idx → α) (h : S2048x6144.ShapeCasts S2x1024x6144) (b : Fin 2) (s : Fin 1024) (d : Fin 6144) :
    shapeCast S2x1024x6144 v h (ix3 b s d) = v (ix2 (tok b s) d) := by
  pointwise []
  rfl

/-- Rows of tokens laid in one list, at an index. -/
theorem merge_at {α : Type} (v : S2x1024x6144.Idx → α) (h : S2x1024x6144.ShapeCasts S2048x6144) (b : Fin 2) (s : Fin 1024) (d : Fin 6144) :
    shapeCast S2048x6144 v h (ix2 (tok b s) d) = v (ix3 b s d) := by
  refine shapeCast_apply v h _ _ ?_
  rw [Shape.rowMajor_val_two, Shape.rowMajor_val_three]
  rfl

/-- A matrix given by its entries, transposed, at an index. -/
theorem flip_at (D : Fin 160 → Fin 6144 → EReal) (d : Fin 6144) (e : Fin 160) :
    transpose S6144x160 [1, 0] (fun y : S160x6144.Idx => D (y 0) (y 1)) transposes_S160x6144_S6144x160_1_0 (ix2 d e) = D e d := by
  pointwise []

/-- A three-axis array with its last two axes exchanged, at an index. -/
theorem swap_at {α : Type} (v : S2x160x1024.Idx → α) (b : Fin 2) (s : Fin 1024) (e : Fin 160) :
    transpose S2x1024x160 [0, 2, 1] v transposes_S2x160x1024_S2x1024x160_0_2_1 (ix3 b s e) = v (ix3 b e s) := by
  pointwise []

section
variable (a0 : Vec Ideal S2x1024x6144 .fp8e4m3) (a1 : Vec Ideal S2x1024 .f32) (a2 : Vec Ideal S6144x160 .bf16) (a3 : Vec Ideal S2x1024x6 .i32)
  (a4 : Vec Ideal S2x1024x6 .bf16)

/-- The five operands, from the five arguments. -/
abbrev opX : Vec Ideal S2048x6144 .fp8e4m3 := shapeCast S2048x6144 a0 shapeCasts_S2x1024x6144_S2048x6144
abbrev opW : Vec Ideal S160x6144 .bf16 := transpose S160x6144 [1, 0] a2 transposes_S6144x160_S160x6144_1_0
abbrev opI : Vec Ideal S6x2x1024 .i32 := transpose S6x2x1024 [2, 0, 1] a3 transposes_S2x1024x6_S6x2x1024_2_0_1
abbrev opD : Vec Ideal S6x2x1024 .bf16 := transpose S6x2x1024 [2, 0, 1] a4 transposes_S2x1024x6_S6x2x1024_2_0_1

theorem opX_at (b : Fin 2) (s : Fin 1024) (d : Fin 6144) : opX a0 (ix2 (tok b s) d) = a0 (ix3 b s d) := merge_at a0 _ b s d
theorem opW_at (e : Fin 160) (d : Fin 6144) : opW a2 (ix2 e d) = a2 (ix2 d e) := by
  unfold opW
  pointwise []
theorem opI_at (k : Fin 6) (b : Fin 2) (s : Fin 1024) : opI a3 (ix3 k b s) = a3 (ix3 b s k) := by
  unfold opI
  pointwise []
theorem opD_at (k : Fin 6) (b : Fin 2) (s : Fin 1024) : opD a4 (ix3 k b s) = a4 (ix3 b s k) := by
  unfold opD
  pointwise []

/-- The gradient of the logits from the operands is the reference's from the arguments. -/
theorem DL_ref (b : Fin 2) (s : Fin 1024) (e : Fin 160) :
    DL (opX a0) a1 (opW a2) (opI a3) (opD a4) b s e = Cert.ReferenceIdeal.Hand.DL a0 a1 a2 a3 a4 b s e := by
  have hX : (fun b s d => opX a0 (ix2 (tok b s) d)) = fun b s d => a0 (ix3 b s d) := funext fun b => funext fun s => funext fun d => opX_at a0 b s d
  have hW : (fun d e => opW a2 (ix2 e d)) = fun d e => a2 (ix2 d e) := funext fun d => funext fun e => opW_at a2 e d
  have hI : (fun b s k => opI a3 (ix3 k b s)) = fun b s k => a3 (ix3 b s k) := funext fun b => funext fun s => funext fun k => opI_at a3 k b s
  have hD : (fun b s k => opD a4 (ix3 k b s)) = fun b s k => a4 (ix3 b s k) := funext fun b => funext fun s => funext fun k => opD_at a4 k b s
  unfold DL Cert.ReferenceIdeal.Hand.DL
  rw [hX, hW, hI, hD]

theorem DT_ref (b : Fin 2) (s : Fin 1024) (e : Fin 160) :
    DT (opX a0) a1 (opW a2) (opI a3) (opD a4) (tok b s) e = Cert.ReferenceIdeal.Hand.DL a0 a1 a2 a3 a4 b s e :=
  (DT_eq _ _ _ _ _ (tok b s) b s rfl e).trans (DL_ref a0 a1 a2 a3 a4 b s e)

/-- The first result. -/
theorem dx_ref : shapeCast S2x1024x6144 (fun y : S2048x6144.Idx => dxAt (opX a0) a1 (opW a2) (opI a3) (opD a4) (y 0) (y 1)) shapeCasts_S2048x6144_S2x1024x6144
    = Cert.ReferenceIdeal.Value.G5 a0 a1 a2 a3 a4 := by
  funext y
  rw [eta3 y]
  refine ((split_at _ _ (y 0) (y 1) (y 2)).trans ?_).trans (Cert.ReferenceIdeal.Hand.dx_at a0 a1 a2 a3 a4 (y 0) (y 1) (y 2)).symm
  refine Finset.sum_congr rfl fun e _ => ?_
  exact congrArg₂ (· * ·) (DT_ref a0 a1 a2 a3 a4 (y 0) (y 1) e) (opW_at a2 e (y 2))

/-- An entry of the second array: the sum over the flattened tokens, row by row. -/
theorem dwAt_ref (d : Fin 6144) (e : Fin 160) : dwAt (opX a0) a1 (opW a2) (opI a3) (opD a4) e d
    = ∑ b, ∑ s, a0 (ix3 b s d) * (Cert.ReferenceIdeal.Hand.DL a0 a1 a2 a3 a4 b s e * a1 (ix2 b s)) := by
  refine (sum_tok _).trans (Finset.sum_congr rfl fun b _ => Finset.sum_congr rfl fun s _ => ?_)
  rw [DT_ref, scaleT_eq a1 (tok b s) b s rfl, opX_at, mul_comm]

/-- The second result. -/
theorem dw_ref : transpose S6144x160 [1, 0] (fun y : S160x6144.Idx => dwAt (opX a0) a1 (opW a2) (opI a3) (opD a4) (y 0) (y 1)) transposes_S160x6144_S6144x160_1_0
    = Cert.ReferenceIdeal.Value.G6 a0 a1 a2 a3 a4 := by
  funext y
  rw [eta2 y]
  refine (show _ = dwAt (opX a0) a1 (opW a2) (opI a3) (opD a4) (y 1) (y 0) from ?_).trans
    (Eq.trans ?_ (Cert.ReferenceIdeal.Hand.dw_at a0 a1 a2 a3 a4 (y 0) (y 1)).symm)
  · generalize dwAt (opX a0) a1 (opW a2) (opI a3) (opD a4) = D
    exact flip_at D (y 0) (y 1)
  · exact dwAt_ref a0 a1 a2 a3 a4 (y 0) (y 1)

/-- The third result. -/
theorem dl_ref : transpose S2x1024x160 [0, 2, 1] (outArr (opX a0) a1 (opW a2) (opI a3) (opD a4)) transposes_S2x160x1024_S2x1024x160_0_2_1
    = Cert.ReferenceIdeal.Value.G7 a0 a1 a2 a3 a4 := by
  funext y
  rw [eta3 y]
  refine (swap_at _ (y 0) (y 1) (y 2)).trans ?_
  exact (DL_ref a0 a1 a2 a3 a4 (y 0) (y 1) (y 2)).trans (Cert.ReferenceIdeal.Hand.dl_at a0 a1 a2 a3 a4 (y 0) (y 1) (y 2)).symm

end

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.IdealLaunch
public import proofs.«01_k».proof.Proof.ValueLaunch
public import proofs.«01_k».proof.Proof.Equation
public import Idealize.ShloMosaic.Adequacy
public import Idealize.ShloMosaic.Init

@[expose] public section

noncomputable section

namespace Cert.Proof

open Idealize.ShloMosaic Idealize.SL.Sem Cert.Kernel

section
open Cert.KernelIdeal Cert.KernelIdeal.Hand Cert.KernelIdeal.Gen
open Idealize.ShloMosaic.TcCoe

variable (m : (ℓ : Loc Cert.KernelIdeal.nD Cert.KernelIdeal.τ Cert.KernelIdeal.sig) → Buf (Elt Ideal) ℓ) (c : Dev Cert.KernelIdeal.nD)

/-- The kernel's first result is the reference's. -/
theorem result_dx : shapeCast Cert.KernelIdeal.S2x1024x6144 (dxArr m c) shapeCasts_S2048x6144_S2x1024x6144
    = Cert.ReferenceIdeal.Value.G5 (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) := by
  unfold dxArr
  rw [entry_x, entry_w, entry_id, entry_dg, Cert.KernelIdeal.Gen.V_main_arg1]
  exact dx_ref _ _ _ _ _

/-- The kernel's second result is the reference's. -/
theorem result_dw : transpose Cert.KernelIdeal.S6144x160 [1, 0] (dwArr m c) transposes_S160x6144_S6144x160_1_0
    = Cert.ReferenceIdeal.Value.G6 (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) := by
  unfold dwArr
  rw [entry_x, entry_w, entry_id, entry_dg, Cert.KernelIdeal.Gen.V_main_arg1]
  exact dw_ref _ _ _ _ _

/-- The kernel's third result is the reference's. -/
theorem result_dl : transpose Cert.KernelIdeal.S2x1024x160 [0, 2, 1] (dlArr m c) transposes_S2x160x1024_S2x1024x160_0_2_1
    = Cert.ReferenceIdeal.Value.G7 (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)) := by
  unfold dlArr
  rw [entry_x, entry_w, entry_id, entry_dg, Cert.KernelIdeal.Gen.V_main_arg1]
  exact dl_ref _ _ _ _ _

end

/-- From memories that agree on the arguments the kernel and the reference, read over the extended reals, end with equal results. -/
theorem algebraic : algebraic_KernelIdeal_ReferenceIdeal (hKernelIdeal := Cert.KernelIdeal.Gen.facts)
    (hReferenceIdeal := Cert.ReferenceIdeal.Gen.facts) := fun m g m' g' _ agree =>
  ⟨fun c => Cert.ReferenceIdeal.Value.G5 (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    fun c => Cert.ReferenceIdeal.Value.G6 (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    fun c => Cert.ReferenceIdeal.Value.G7 (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4)),
    (θ_run _ _ _).mono (fun r h c => ⟨(h c).1.trans (result_dx m c), (h c).2.1.trans (result_dw m c), (h c).2.2.1.trans (result_dl m c), (h c).2.2.2⟩)
      (Cert.KernelIdeal.Hand.run_results m g),
    (θ_run _ _ _).mono (fun r h c => by
        obtain ⟨e0, e1, e2, e3, e4⟩ := agree c
        obtain ⟨h5, h6, h7, kept⟩ := h c
        rw [e0, e1, e2, e3, e4] at h5 h6 h7
        exact ⟨h5, h6, h7, kept⟩)
      (Cert.ReferenceIdeal.Value.run m' g')⟩

/-- The kernel, its ideal reading and the ideal reference run to completion with their arguments unchanged and every counter at zero;
    idealizing rewrites nothing; and over the extended reals the kernel's three results are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
